-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S64x50x4096 : Shape := ⟨3, ![64, 50, 4096]⟩
abbrev S64x4096 : Shape := ⟨2, ![64, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel

variable [Facts]

def fn {F : FTy → Type} [FloatOps F] (main_arg0 : FVec F S64x50x4096 .f32) (main_arg1 : IVec S64x4096 32) : IVec S_ 1 :=
  let main_c : IVec S_ 32 := constantI S_ 32 0#32
  let main_v0 : IVec S64x4096 32 := broadcastInDim S64x4096 ![] bcast_S_S64x4096 main_c
  let main_v1 : IVec S64x4096 1 := cmpi .sge main_arg1 main_v0
  let main_c_0 : IVec S_ 32 := constantI S_ 32 50#32
  let main_v2 : IVec S64x4096 32 := broadcastInDim S64x4096 ![] bcast_S_S64x4096 main_c_0
  let main_v3 : IVec S64x4096 1 := cmpi .slt main_arg1 main_v2
  let main_v4 : IVec S64x4096 1 := andi main_v1 main_v3
  let main_c_1 : IVec S_ 1 := constantI S_ 1 1#1
  let main_v5 : IVec S_ 1 := (fun x v => Host.reduce IntOp.andi x v reducesTo_S64x4096_S_d0_1 h_S_) main_v4 main_c_1
  main_v5
-- ==== Kernel.lean ====
abbrev S64x50x4096 : Shape := ⟨3, ![64, 50, 4096]⟩
abbrev S64x4096 : Shape := ⟨2, ![64, 4096]⟩
abbrev S50x64x4096 : Shape := ⟨3, ![50, 64, 4096]⟩
abbrev S50x8x4096 : Shape := ⟨3, ![50, 8, 4096]⟩
abbrev S8x4096 : Shape := ⟨2, ![8, 4096]⟩
abbrev S1x8x4096 : Shape := ⟨3, ![1, 8, 4096]⟩
abbrev S32x192 : Shape := ⟨2, ![32, 192]⟩
abbrev S2x4096 : Shape := ⟨2, ![2, 4096]⟩
abbrev S2048 : Shape := ⟨1, ![2048]⟩
abbrev S192 : Shape := ⟨1, ![192]⟩
abbrev S_ : Shape := ⟨0, ![]⟩
abbrev S16 : Shape := ⟨1, ![16]⟩
abbrev S1x16 : Shape := ⟨2, ![1, 16]⟩
abbrev S1x192 : Shape := ⟨2, ![1, 192]⟩
abbrev S50 : Shape := ⟨1, ![50]⟩

abbrev nBuf : Table → Nat
  | .hbm => 12
  | .local .tc .vmem => 4
  | .local .scVector .vmem => 4
  | _ => 0

abbrev bufTy : (tb : Table) → Fin (nBuf tb) → BufTy
  | .hbm, ⟨0, _⟩ => ⟨S64x50x4096, .f32⟩
  | .hbm, ⟨1, _⟩ => ⟨S64x4096, .i32⟩
  | .hbm, ⟨2, _⟩ => ⟨S50x64x4096, .f32⟩
  | .hbm, ⟨3, _⟩ => ⟨S64x4096, .i32⟩
  | .hbm, ⟨4, _⟩ => ⟨S32x192, .f32⟩
  | .hbm, ⟨5, _⟩ => ⟨S_, .f32⟩
  | .hbm, ⟨6, _⟩ => ⟨S192, .f32⟩
  | .hbm, ⟨7, _⟩ => ⟨S50, .f32⟩
  | .hbm, ⟨8, _⟩ => ⟨S50, .f32⟩
  | .hbm, ⟨9, _⟩ => ⟨S50, .f32⟩
  | .hbm, ⟨10, _⟩ => ⟨S50, .f32⟩
  | .hbm, ⟨11, _⟩ => ⟨S50, .f32⟩
  | .local .tc .vmem, ⟨0, _⟩ => ⟨S50x8x4096, .f32⟩
  | .local .tc .vmem, ⟨1, _⟩ => ⟨S50x8x4096, .f32⟩
  | .local .tc .vmem, ⟨2, _⟩ => ⟨S8x4096, .i32⟩
  | .local .tc .vmem, ⟨3, _⟩ => ⟨S8x4096, .i32⟩
  | .local .scVector .vmem, ⟨0, _⟩ => ⟨S2x4096, .i32⟩
  | .local .scVector .vmem, ⟨1, _⟩ => ⟨S2x4096, .i32⟩
  | .local .scVector .vmem, ⟨2, _⟩ => ⟨S2048, .f32⟩
  | .local .scVector .vmem, ⟨3, _⟩ => ⟨S192, .f32⟩
  | _, _ => ⟨S64x50x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S50x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_281_r0 : BitVec 32 := 0#32
  ![v2.toNat, 0]
@[reducible] def k1_t1_loop : Scf.Loop 32 :=
  let c0_i32_5 : BitVec 32 := 0#32
  let c64_i32_6 : BitVec 32 := 64#32
  let v137 : BitVec 32 := Scalar.addi c0_i32_5 c64_i32_6
  let c1_i32 : BitVec 32 := 1#32
  ⟨c0_i32_5, v137, c1_i32⟩
def k1_off2 (k1_t1 : Fin k1_t1_loop.trips) : Fin 2 → Nat :=
  let c0_i32_283 : BitVec 32 := 0#32
  let v921 : Index := Scalar.indexCast c0_i32_283
  let c0_i32_5 : BitVec 32 := 0#32
  let c1_i32 : BitVec 32 := 1#32
  let arg9 : BitVec 32 := Scf.iv c0_i32_5 c1_i32 k1_t1
  let c64_i32_281 : BitVec 32 := 64#32
  let v919 : BitVec 32 := Scalar.muli arg9 c64_i32_281
  let c0_i32_282 : BitVec 32 := 0#32
  let v920 : BitVec 32 := Scalar.addi v919 c0_i32_282
  let v922 : Index := Scalar.indexCast v920
  ![0, v922.toNat]

def k1_chk1 (v931 : IVec S16 32) : Prop :=
  (∀ a x, ((![v931] : Fin 1 → IVec S16 32) a x).toNat < S2048.size a)
theorem k1_idx1_inb : ∀ (v931 : IVec S16 32) (k1_hw1 : k1_chk1 v931), ∀ a x, ((![v931] : Fin 1 → IVec S16 32) a x).toNat < S2048.size a := fun v931 k1_hw1 => k1_hw1

def k1_chk2 (v934 : IVec S16 32) : Prop :=
  (∀ a x, ((![v934] : Fin 1 → IVec S16 32) a x).toNat < S2048.size a)
theorem k1_idx2_inb : ∀ (v934 : IVec S16 32) (k1_hw2 : k1_chk2 v934), ∀ a x, ((![v934] : Fin 1 → IVec S16 32) a x).toNat < S2048.size a := fun v934 k1_hw2 => k1_hw2
def k1_off3 (k1_t1 : Fin k1_t1_loop.trips) : Fin 2 → Nat :=
  let c0_i32_286 : BitVec 32 := 0#32
  let v937 : Index := Scalar.indexCast c0_i32_286
  let c0_i32_5 : BitVec 32 := 0#32
  let c1_i32 : BitVec 32 := 1#32
  let arg9 : BitVec 32 := Scf.iv c0_i32_5 c1_i32 k1_t1
  let c64_i32_285 : BitVec 32 := 64#32
  let v935 : BitVec 32 := Scalar.muli arg9 c64_i32_285
  let c16_i32 : BitVec 32 := 16#32
  let v936 : BitVec 32 := Scalar.addi v935 c16_i32
  let v938 : Index := Scalar.indexCast v936
  ![0, v938.toNat]

def k1_chk3 (v947 : IVec S16 32) : Prop :=
  (∀ a x, ((![v947] : Fin 1 → IVec S16 32) a x).toNat < S2048.size a)
theorem k1_idx3_inb : ∀ (v947 : IVec S16 32) (k1_hw3 : k1_chk3 v947), ∀ a x, ((![v947] : Fin 1 → IVec S16 32) a x).toNat < S2048.size a := fun v947 k1_hw3 => k1_hw3

def k1_chk4 (v950 : IVec S16 32) : Prop :=
  (∀ a x, ((![v950] : Fin 1 → IVec S16 32) a x).toNat < S2048.size a)
theorem k1_idx4_inb : ∀ (v950 : IVec S16 32) (k1_hw4 : k1_chk4 v950), ∀ a x, ((![v950] : Fin 1 → IVec S16 32) a x).toNat < S2048.size a := fun v950 k1_hw4 => k1_hw4
def k1_off4 (k1_t1 : Fin k1_t1_loop.trips) : Fin 2 → Nat :=
  let c0_i32_290 : BitVec 32 := 0#32
  let v953 : Index := Scalar.indexCast c0_i32_290
  let c0_i32_5 : BitVec 32 := 0#32
  let c1_i32 : BitVec 32 := 1#32
  let arg9 : BitVec 32 := Scf.iv c0_i32_5 c1_i32 k1_t1
  let c64_i32_289 : BitVec 32 := 64#32
  let v951 : BitVec 32 := Scalar.muli arg9 c64_i32_289
  let c32_i32 : BitVec 32 := 32#32
  let v952 : BitVec 32 := Scalar.addi v951 c32_i32
  let v954 : Index := Scalar.indexCast v952
  ![0, v954.toNat]

def k1_chk5 (v963 : IVec S16 32) : Prop :=
  (∀ a x, ((![v963] : Fin 1 → IVec S16 32) a x).toNat < S2048.size a)
theorem k1_idx5_inb : ∀ (v963 : IVec S16 32) (k1_hw5 : k1_chk5 v963), ∀ a x, ((![v963] : Fin 1 → IVec S16 32) a x).toNat < S2048.size a := fun v963 k1_hw5 => k1_hw5

def k1_chk6 (v966 : IVec S16 32) : Prop :=
  (∀ a x, ((![v966] : Fin 1 → IVec S16 32) a x).toNat < S2048.size a)
theorem k1_idx6_inb : ∀ (v966 : IVec S16 32) (k1_hw6 : k1_chk6 v966), ∀ a x, ((![v966] : Fin 1 → IVec S16 32) a x).toNat < S2048.size a := fun v966 k1_hw6 => k1_hw6
def k1_off5 (k1_t1 : Fin k1_t1_loop.trips) : Fin 2 → Nat :=
  let c0_i32_294 : BitVec 32 := 0#32
  let v969 : Index := Scalar.indexCast c0_i32_294
  let c0_i32_5 : BitVec 32 := 0#32
  let c1_i32 : BitVec 32 := 1#32
  let arg9 : BitVec 32 := Scf.iv c0_i32_5 c1_i32 k1_t1
  let c64_i32_293 : BitVec 32 := 64#32
  let v967 : BitVec 32 := Scalar.muli arg9 c64_i32_293
  let c48_i32 : BitVec 32 := 48#32
  let v968 : BitVec 32 := Scalar.addi v967 c48_i32
  let v970 : Index := Scalar.indexCast v968
  ![0, v970.toNat]

def k1_chk7 (v979 : IVec S16 32) : Prop :=
  (∀ a x, ((![v979] : Fin 1 → IVec S16 32) a x).toNat < S2048.size a)
theorem k1_idx7_inb : ∀ (v979 : IVec S16 32) (k1_hw7 : k1_chk7 v979), ∀ a x, ((![v979] : Fin 1 → IVec S16 32) a x).toNat < S2048.size a := fun v979 k1_hw7 => k1_hw7

def k1_chk8 (v982 : IVec S16 32) : Prop :=
  (∀ a x, ((![v982] : Fin 1 → IVec S16 32) a x).toNat < S2048.size a)
theorem k1_idx8_inb : ∀ (v982 : IVec S16 32) (k1_hw8 : k1_chk8 v982), ∀ a x, ((![v982] : Fin 1 → IVec S16 32) a x).toNat < S2048.size a := fun v982 k1_hw8 => k1_hw8
@[reducible] def k1_t2_loop : Scf.Loop 32 :=
  let c0_i32_11 : BitVec 32 := 0#32
  let c64_i32_12 : BitVec 32 := 64#32
  let v138 : BitVec 32 := Scalar.addi c0_i32_11 c64_i32_12
  let c1_i32_13 : BitVec 32 := 1#32
  ⟨c0_i32_11, v138, c1_i32_13⟩
def k1_off6 (k1_t2 : Fin k1_t2_loop.trips) : Fin 2 → Nat :=
  let c1_i32_283 : BitVec 32 := 1#32
  let v921 : Index := Scalar.indexCast c1_i32_283
  let c0_i32_11 : BitVec 32 := 0#32
  let c1_i32_13 : BitVec 32 := 1#32
  let arg9 : BitVec 32 := Scf.iv c0_i32_11 c1_i32_13 k1_t2
  let c64_i32_281 : BitVec 32 := 64#32
  let v919 : BitVec 32 := Scalar.muli arg9 c64_i32_281
  let c0_i32_282 : BitVec 32 := 0#32
  let v920 : BitVec 32 := Scalar.addi v919 c0_i32_282
  let v922 : Index := Scalar.indexCast v920
  ![1, v922.toNat]

def k1_chk9 (v931 : IVec S16 32) : Prop :=
  (∀ a x, ((![v931] : Fin 1 → IVec S16 32) a x).toNat < S2048.size a)
theorem k1_idx9_inb : ∀ (v931 : IVec S16 32) (k1_hw9 : k1_chk9 v931), ∀ a x, ((![v931] : Fin 1 → IVec S16 32) a x).toNat < S2048.size a := fun v931 k1_hw9 => k1_hw9

def k1_chk10 (v934 : IVec S16 32) : Prop :=
  (∀ a x, ((![v934] : Fin 1 → IVec S16 32) a x).toNat < S2048.size a)
theorem k1_idx10_inb : ∀ (v934 : IVec S16 32) (k1_hw10 : k1_chk10 v934), ∀ a x, ((![v934] : Fin 1 → IVec S16 32) a x).toNat < S2048.size a := fun v934 k1_hw10 => k1_hw10
def k1_off7 (k1_t2 : Fin k1_t2_loop.trips) : Fin 2 → Nat :=
  let c1_i32_286 : BitVec 32 := 1#32
  let v937 : Index := Scalar.indexCast c1_i32_286
  let c0_i32_11 : BitVec 32 := 0#32
  let c1_i32_13 : BitVec 32 := 1#32
  let arg9 : BitVec 32 := Scf.iv c0_i32_11 c1_i32_13 k1_t2
  let c64_i32_285 : BitVec 32 := 64#32
  let v935 : BitVec 32 := Scalar.muli arg9 c64_i32_285
  let c16_i32 : BitVec 32 := 16#32
  let v936 : BitVec 32 := Scalar.addi v935 c16_i32
  let v938 : Index := Scalar.indexCast v936
  ![1, v938.toNat]

def k1_chk11 (v947 : IVec S16 32) : Prop :=
  (∀ a x, ((![v947] : Fin 1 → IVec S16 32) a x).toNat < S2048.size a)
theorem k1_idx11_inb : ∀ (v947 : IVec S16 32) (k1_hw11 : k1_chk11 v947), ∀ a x, ((![v947] : Fin 1 → IVec S16 32) a x).toNat < S2048.size a := fun v947 k1_hw11 => k1_hw11

def k1_chk12 (v950 : IVec S16 32) : Prop :=
  (∀ a x, ((![v950] : Fin 1 → IVec S16 32) a x).toNat < S2048.size a)
theorem k1_idx12_inb : ∀ (v950 : IVec S16 32) (k1_hw12 : k1_chk12 v950), ∀ a x, ((![v950] : Fin 1 → IVec S16 32) a x).toNat < S2048.size a := fun v950 k1_hw12 => k1_hw12
def k1_off8 (k1_t2 : Fin k1_t2_loop.trips) : Fin 2 → Nat :=
  let c1_i32_290 : BitVec 32 := 1#32
  let v953 : Index := Scalar.indexCast c1_i32_290
  let c0_i32_11 : BitVec 32 := 0#32
  let c1_i32_13 : BitVec 32 := 1#32
  let arg9 : BitVec 32 := Scf.iv c0_i32_11 c1_i32_13 k1_t2
  let c64_i32_289 : BitVec 32 := 64#32
  let v951 : BitVec 32 := Scalar.muli arg9 c64_i32_289
  let c32_i32 : BitVec 32 := 32#32
  let v952 : BitVec 32 := Scalar.addi v951 c32_i32
  let v954 : Index := Scalar.indexCast v952
  ![1, v954.toNat]

def k1_chk13 (v963 : IVec S16 32) : Prop :=
  (∀ a x, ((![v963] : Fin 1 → IVec S16 32) a x).toNat < S2048.size a)
theorem k1_idx13_inb : ∀ (v963 : IVec S16 32) (k1_hw13 : k1_chk13 v963), ∀ a x, ((![v963] : Fin 1 → IVec S16 32) a x).toNat < S2048.size a := fun v963 k1_hw13 => k1_hw13

def k1_chk14 (v966 : IVec S16 32) : Prop :=
  (∀ a x, ((![v966] : Fin 1 → IVec S16 32) a x).toNat < S2048.size a)
theorem k1_idx14_inb : ∀ (v966 : IVec S16 32) (k1_hw14 : k1_chk14 v966), ∀ a x, ((![v966] : Fin 1 → IVec S16 32) a x).toNat < S2048.size a := fun v966 k1_hw14 => k1_hw14
def k1_off9 (k1_t2 : Fin k1_t2_loop.trips) : Fin 2 → Nat :=
  let c1_i32_294 : BitVec 32 := 1#32
  let v969 : Index := Scalar.indexCast c1_i32_294
  let c0_i32_11 : BitVec 32 := 0#32
  let c1_i32_13 : BitVec 32 := 1#32
  let arg9 : BitVec 32 := Scf.iv c0_i32_11 c1_i32_13 k1_t2
  let c64_i32_293 : BitVec 32 := 64#32
  let v967 : BitVec 32 := Scalar.muli arg9 c64_i32_293
  let c48_i32 : BitVec 32 := 48#32
  let v968 : BitVec 32 := Scalar.addi v967 c48_i32
  let v970 : Index := Scalar.indexCast v968
  ![1, v970.toNat]

def k1_chk15 (v979 : IVec S16 32) : Prop :=
  (∀ a x, ((![v979] : Fin 1 → IVec S16 32) a x).toNat < S2048.size a)
theorem k1_idx15_inb : ∀ (v979 : IVec S16 32) (k1_hw15 : k1_chk15 v979), ∀ a x, ((![v979] : Fin 1 → IVec S16 32) a x).toNat < S2048.size a := fun v979 k1_hw15 => k1_hw15

def k1_chk16 (v982 : IVec S16 32) : Prop :=
  (∀ a x, ((![v982] : Fin 1 → IVec S16 32) a x).toNat < S2048.size a)
theorem k1_idx16_inb : ∀ (v982 : IVec S16 32) (k1_hw16 : k1_chk16 v982), ∀ a x, ((![v982] : Fin 1 → IVec S16 32) a x).toNat < S2048.size a := fun v982 k1_hw16 => k1_hw16
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_281_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x50x4096 : Shape := ⟨3, ![64, 50, 4096]⟩
abbrev S64x4096 : Shape := ⟨2, ![64, 4096]⟩
abbrev S_ : Shape := ⟨0, ![]⟩
abbrev S262144 : Shape := ⟨1, ![262144]⟩
abbrev S50 : Shape := ⟨1, ![50]⟩
abbrev S262144x1 : Shape := ⟨2, ![262144, 1]⟩

abbrev nBuf : Space → Nat
  | .hbm => 64
  | .vmem => 0
  | .smem => 0
  | _ => 0

abbrev bufTy : (tb : Table) → Fin (tcTables nBuf tb) → BufTy
  | .hbm, ⟨0, _⟩ => ⟨S64x50x4096, .f32⟩
  | .hbm, ⟨1, _⟩ => ⟨S64x4096, .i32⟩
  | .hbm, ⟨2, _⟩ => ⟨S64x50x4096, .i32⟩
  | .hbm, ⟨3, _⟩ => ⟨S_, .f32⟩
  | .hbm, ⟨4, _⟩ => ⟨S_, .i32⟩
  | .hbm, ⟨5, _⟩ => ⟨S64x4096, .f32⟩
  | .hbm, ⟨6, _⟩ => ⟨S64x4096, .i32⟩
  | .hbm, ⟨7, _⟩ => ⟨S262144, .i32⟩
  | .hbm, ⟨8, _⟩ => ⟨S262144, .i32⟩
  | .hbm, ⟨9, _⟩ => ⟨S262144, .i1⟩
  | .hbm, ⟨10, _⟩ => ⟨S262144, .f32⟩
  | .hbm, ⟨11, _⟩ => ⟨S_, .f32⟩
  | .hbm, ⟨12, _⟩ => ⟨S50, .f32⟩
  | .hbm, ⟨13, _⟩ => ⟨S_, .i32⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S50, .f32⟩
  | .hbm, ⟨26, _⟩ => ⟨S_, .i32⟩
  | .hbm, ⟨27, _⟩ => ⟨S50, .i32⟩
  | .hbm, ⟨28, _⟩ => ⟨S_, .i32⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S_, .i32⟩
  | .hbm, ⟨33, _⟩ => ⟨S262144, .i32⟩
  | .hbm, ⟨34, _⟩ => ⟨S262144, .i1⟩
  | .hbm, ⟨35, _⟩ => ⟨S_, .i32⟩
  | .hbm, ⟨36, _⟩ => ⟨S262144, .i32⟩
  | .hbm, ⟨37, _⟩ => ⟨S262144, .i32⟩
  | .hbm, ⟨38, _⟩ => ⟨S262144, .i32⟩
  | .hbm, ⟨39, _⟩ => ⟨S262144x1, .i32⟩
  | .hbm, ⟨40, _⟩ => ⟨S_, .i32⟩
  | .hbm, ⟨41, _⟩ => ⟨S262144, .i32⟩
  | .hbm, ⟨42, _⟩ => ⟨S50, .i32⟩
  | .hbm, ⟨43, _⟩ => ⟨S50, .f32⟩
  | .hbm, ⟨44, _⟩ => ⟨S_, .i32⟩
  | .hbm, ⟨45, _⟩ => ⟨S50, .i32⟩
  | .hbm, ⟨46, _⟩ => ⟨S_, .i32⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S_, .i32⟩
  | .hbm, ⟨51, _⟩ => ⟨S262144, .i32⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S262144x1, .i32⟩
  | .hbm, ⟨58, _⟩ => ⟨S_, .i32⟩
  | .hbm, ⟨59, _⟩ => ⟨S262144, .i32⟩
  | .hbm, ⟨60, _⟩ => ⟨S50, .i32⟩
  | .hbm, ⟨61, _⟩ => ⟨S50, .f32⟩
  | .hbm, ⟨62, _⟩ => ⟨S50, .f32⟩
  | .hbm, ⟨63, _⟩ => ⟨S50, .f32⟩
  | _, _ => ⟨S64x50x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_c_8 : Ref sig .tc := ⟨.hbm, 46, rfl⟩
abbrev main_call3_v0 : Ref sig .tc := ⟨.hbm, 47, rfl⟩
abbrev main_call3_v1 : Ref sig .tc := ⟨.hbm, 48, rfl⟩
abbrev main_v26 : Ref sig .tc := ⟨.hbm, 49, rfl⟩
abbrev main_c_9 : Ref sig .tc := ⟨.hbm, 50, rfl⟩
abbrev main_v27 : Ref sig .tc := ⟨.hbm, 51, rfl⟩
abbrev main_v28 : Ref sig .tc := ⟨.hbm, 52, rfl⟩
abbrev main_c_10 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_11 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]
-- ==== Proof.ArgmaxBody.lean ====
/-
  The TensorCore kernel's body: one block of eight rows of the class-major logits, reduced to the index of its largest class.
-/
module

public import proofs.«01_k».proof.Defs
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Kit
public import Idealize.ShloMosaic.Lib.Tactic

@[expose] public section

noncomputable section

namespace Cert.Proof.Argmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {U : Type} [URA U]

local notation "𝕄" => MT nD τ sig Ix (Elt F) ℕ U ℕ

/-- The contents of the buffer under a memref, on the TensorCore of device `c`. -/
abbrev Bf (c : Dev nD) {sp : Space} {S : Shape} {e : EltTy} (M : Memref sig .tc sp S e) : Type := Buf (Elt F) (M.view.loc (c : Thread nD τ))
/-- The buffer under a memref is held whole with these contents. -/
abbrev pt (c : Dev nD) {sp : Space} {S : Shape} {e : EltTy} (M : Memref sig .tc sp S e) (f : Bf (F := F) c M) : sProp 𝕄 :=
  M.view.loc (c : Thread nD τ) ↦{fullShare} f

/-- The body runs from the two blocks held whole: it leaves the logits' block as it was and fills the block of
indices with contents the run itself determines. -/
noncomputable def bodyRun (c : Dev nD) (i : grid0.Coords) (M0 : Memref sig .tc .vmem S50x8x4096 .f32) (h0 : M0.IsWhole)
    (M1 : Memref sig .tc .vmem S8x4096 .i32) (h1 : M1.IsWhole) (f0 : Bf (F := F) c M0) :
    { W : Bf (F := F) c M1 // ∀ (f1 : Bf (F := F) c M1) (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc0__argmax_body i M0 h0 M1 h1) Q } := by
  refine ⟨?_, fun f1 E Q => ?run⟩
  case run =>
    sl_unfold [cc0__argmax_body]
    iintro ⟨H0, H1, Hk⟩
    sl_exec_parts!
    sl_step
    iapply Hk
    isplitl [H0]; · iexact H0
    iexact H1

end Cert.Proof.Argmax
-- ==== Proof.ArgmaxValue.lean ====
/-
  The value of the TensorCore kernel's body: the block of indices it leaves is the first class of the largest logit.
-/
module

public import proofs.«01_k».proof.Defs
public import proofs.«01_k».proof.Proof.Gen.KernelIdeal.Launch
public import proofs.«01_k».proof.Proof.Gen.KernelIdeal.Points
public import proofs.«01_k».proof.Proof.Gen.KernelIdeal.Skeleton
public import proofs.«01_k».proof.Proof.ArgmaxBody
public import Idealize.ShloMosaic.Lib.Pipeline.Value
public import Idealize.ShloMosaic.Lib.Pipeline.Kit
public import Idealize.ShloMosaic.Lib.Tactic

@[expose] public section

noncomputable section

namespace Cert.Proof.Argmax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {U : Type} [URA U]

local notation "𝕄" => MT nD τ sig Ix (Elt F) ℕ U ℕ

/-- The largest of `g 0 … g n` found by a scan with the strict comparison, and the index where the scan last moved. -/
def amaxAt (g : ℕ → F .f32) : ℕ → F .f32 × BitVec 32
  | 0 => (g 0, 0#32)
  | n + 1 => (Scalar.select (FloatOps.cmpf .ogt (g (n + 1)) (amaxAt g n).1) (g (n + 1)) (amaxAt g n).1,
      Scalar.select (FloatOps.cmpf .ogt (g (n + 1)) (amaxAt g n).1) (BitVec.ofNat 32 (n + 1)) (amaxAt g n).2)

/-- The scan's index is at most the number of steps. -/
theorem amaxAt_le (g : ℕ → F .f32) (n : ℕ) (hn : n < 2 ^ 32) : (amaxAt g n).2.toNat ≤ n := by
  induction n with
  | zero => simp [amaxAt]
  | succ n ih =>
    have := ih (by omega)
    simp only [amaxAt, Scalar.select]
    split
    · exact Nat.mod_le _ _
    · omega

/-- The same scan over whole vectors, lane by lane. -/
def amaxV (g : ℕ → FVec F S8x4096 .f32) : ℕ → FVec F S8x4096 .f32 × IVec S8x4096 32
  | 0 => (g 0, broadcast S8x4096 0#32)
  | n + 1 => (select (cmpf .ogt (g (n + 1)) (amaxV g n).1) (g (n + 1)) (amaxV g n).1,
      select (cmpf .ogt (g (n + 1)) (amaxV g n).1) (broadcast S8x4096 (BitVec.ofNat 32 (n + 1))) (amaxV g n).2)

/-- The scan over vectors is the scan at each position. -/
theorem amaxV_apply (g : ℕ → FVec F S8x4096 .f32) (j : S8x4096.Idx) (n : ℕ) :
    ((amaxV g n).1 j, (amaxV g n).2 j) = amaxAt (fun c => g c j) n := by
  induction n with
  | zero => rfl
  | succ n ih =>
    have h1 : (amaxV g n).1 j = (amaxAt (fun c => g c j) n).1 := by rw [← ih]
    have h2 : (amaxV g n).2 j = (amaxAt (fun c => g c j) n).2 := by rw [← ih]
    show (Scalar.select (FloatOps.cmpf .ogt (g (n + 1) j) ((amaxV g n).1 j)) (g (n + 1) j) ((amaxV g n).1 j),
      Scalar.select (FloatOps.cmpf .ogt (g (n + 1) j) ((amaxV g n).1 j)) (BitVec.ofNat 32 (n + 1)) ((amaxV g n).2 j)) = _
    rw [h1, h2]; rfl

/-- Class `c`'s index of a block of logits, at row and column `j`. -/
def at3 (c : ℕ) (j : S8x4096.Idx) : S50x8x4096.Idx :=
  Fin.cons (α := fun k => Fin (S50x8x4096.size k)) (⟨c % 50, Nat.mod_lt _ (by decide)⟩ : Fin 50) j

/-- One class's slab of a block of logits. -/
def slab (X : FVec F S50x8x4096 .f32) (c : ℕ) : FVec F S8x4096 .f32 := fun j => X (at3 c j)

/-- A class's slab read out of the buffer with its leading axis dropped. -/
theorem cast_slab (c : Dev nD) (M0 : Memref sig .tc .vmem S50x8x4096 .f32) (f0 : Bf (F := F) c M0) (n : ℕ)
    (h : ∀ k, ![n, 0, 0] k + S1x8x4096.size k ≤ S50x8x4096.size k) :
    shapeCast S8x4096 (View.readAt (Elt F) M0.view (Rect.unit (s := S50x8x4096) ![n, 0, 0] S1x8x4096.size h).toLoadRect f0)
      shapeCasts_S1x8x4096_S8x4096 = slab (M0.view.read (Elt F) f0) n := by
  funext j
  refine (shapeCast_dropUnit_apply ![8, 4096] _ _ j).trans ?_
  have hn : n < 50 := by have := h 0; simp at this; omega
  show View.read (Elt F) M0.view f0 _ = View.read (Elt F) M0.view f0 _
  congr 1
  funext k
  apply Fin.ext
  fin_cases k <;> simp [at3, Nat.mod_eq_of_lt hn, LoadRect.idx, Rect.toLoadRect, Rect.unit] <;> rfl

/-- The block of indices a block of logits gives: at each row and column the first class of the largest logit. -/
def argBlk (X : FVec F S50x8x4096 .f32) : IVec S8x4096 32 := (amaxV (slab X) 49).2

theorem argBlk_apply (X : FVec F S50x8x4096 .f32) (j : S8x4096.Idx) :
    argBlk X j = (amaxAt (fun c => X (at3 c j)) 49).2 := by
  have h := amaxV_apply (slab X) j 49
  exact congrArg Prod.snd h

/-- One step of the scan over vectors. -/
def step (p : FVec F S8x4096 .f32 × IVec S8x4096 32) (v : FVec F S8x4096 .f32) (n : ℕ) : FVec F S8x4096 .f32 × IVec S8x4096 32 :=
  (select (cmpf .ogt v p.1) v p.1, select (cmpf .ogt v p.1) (broadcast S8x4096 (BitVec.ofNat 32 n)) p.2)

/-- The class's slab as the body reads it. -/
def sc (c : Dev nD) (M0 : Memref sig .tc .vmem S50x8x4096 .f32) (f0 : Bf (F := F) c M0) (n : ℕ)
    (h : ∀ k, ![n, 0, 0] k + S1x8x4096.size k ≤ S50x8x4096.size k) : FVec F S8x4096 .f32 :=
  shapeCast S8x4096 (View.readAt (Elt F) M0.view (Rect.unit (s := S50x8x4096) ![n, 0, 0] S1x8x4096.size h).toLoadRect f0)
    shapeCasts_S1x8x4096_S8x4096

theorem sc_eq (c : Dev nD) (M0 : Memref sig .tc .vmem S50x8x4096 .f32) (f0 : Bf (F := F) c M0) (n : ℕ)
    (h : ∀ k, ![n, 0, 0] k + S1x8x4096.size k ≤ S50x8x4096.size k) :
    sc c M0 f0 n h = slab (M0.view.read (Elt F) f0) n := cast_slab c M0 f0 n h

theorem run_r (c : Dev nD) (M0 : Memref sig .tc .vmem S50x8x4096 .f32) (f0 : Bf (F := F) c M0) :
    bodyRun.sl.r c M0 f0 = (amaxV (slab (M0.view.read (Elt F) f0)) 5).1 := by
  show ((step (step (step (step (step (sc c M0 f0 0 inb_S50x8x4096_S1x8x4096_0_0_0, broadcast S8x4096 0#32) (sc c M0 f0 1 inb_S50x8x4096_S1x8x4096_1_0_0) 1) (sc c M0 f0 2 inb_S50x8x4096_S1x8x4096_2_0_0) 2) (sc c M0 f0 3 inb_S50x8x4096_S1x8x4096_3_0_0) 3) (sc c M0 f0 4 inb_S50x8x4096_S1x8x4096_4_0_0) 4) (sc c M0 f0 5 inb_S50x8x4096_S1x8x4096_5_0_0) 5)).1 = _
  simp only [sc_eq]
  rfl

theorem run_r_1 (c : Dev nD) (M0 : Memref sig .tc .vmem S50x8x4096 .f32) (f0 : Bf (F := F) c M0) :
    bodyRun.sl.r_1 c M0 f0 = (amaxV (slab (M0.view.read (Elt F) f0)) 5).2 := by
  show ((step (step (step (step (step (sc c M0 f0 0 inb_S50x8x4096_S1x8x4096_0_0_0, broadcast S8x4096 0#32) (sc c M0 f0 1 inb_S50x8x4096_S1x8x4096_1_0_0) 1) (sc c M0 f0 2 inb_S50x8x4096_S1x8x4096_2_0_0) 2) (sc c M0 f0 3 inb_S50x8x4096_S1x8x4096_3_0_0) 3) (sc c M0 f0 4 inb_S50x8x4096_S1x8x4096_4_0_0) 4) (sc c M0 f0 5 inb_S50x8x4096_S1x8x4096_5_0_0) 5)).2 = _
  simp only [sc_eq]
  rfl

theorem run_r_2 (c : Dev nD) (M0 : Memref sig .tc .vmem S50x8x4096 .f32) (f0 : Bf (F := F) c M0) :
    bodyRun.sl.r_2 c M0 f0 = (amaxV (slab (M0.view.read (Elt F) f0)) 11).1 := by
  show ((step (step (step (step (step (step (bodyRun.sl.r c M0 f0, bodyRun.sl.r_1 c M0 f0) (sc c M0 f0 6 inb_S50x8x4096_S1x8x4096_6_0_0) 6) (sc c M0 f0 7 inb_S50x8x4096_S1x8x4096_7_0_0) 7) (sc c M0 f0 8 inb_S50x8x4096_S1x8x4096_8_0_0) 8) (sc c M0 f0 9 inb_S50x8x4096_S1x8x4096_9_0_0) 9) (sc c M0 f0 10 inb_S50x8x4096_S1x8x4096_10_0_0) 10) (sc c M0 f0 11 inb_S50x8x4096_S1x8x4096_11_0_0) 11)).1 = _
  simp only [run_r, run_r_1, sc_eq]
  rfl

theorem run_r_3 (c : Dev nD) (M0 : Memref sig .tc .vmem S50x8x4096 .f32) (f0 : Bf (F := F) c M0) :
    bodyRun.sl.r_3 c M0 f0 = (amaxV (slab (M0.view.read (Elt F) f0)) 11).2 := by
  show ((step (step (step (step (step (step (bodyRun.sl.r c M0 f0, bodyRun.sl.r_1 c M0 f0) (sc c M0 f0 6 inb_S50x8x4096_S1x8x4096_6_0_0) 6) (sc c M0 f0 7 inb_S50x8x4096_S1x8x4096_7_0_0) 7) (sc c M0 f0 8 inb_S50x8x4096_S1x8x4096_8_0_0) 8) (sc c M0 f0 9 inb_S50x8x4096_S1x8x4096_9_0_0) 9) (sc c M0 f0 10 inb_S50x8x4096_S1x8x4096_10_0_0) 10) (sc c M0 f0 11 inb_S50x8x4096_S1x8x4096_11_0_0) 11)).2 = _
  simp only [run_r, run_r_1, sc_eq]
  rfl

theorem run_r_4 (c : Dev nD) (M0 : Memref sig .tc .vmem S50x8x4096 .f32) (f0 : Bf (F := F) c M0) :
    bodyRun.sl.r_4 c M0 f0 = (amaxV (slab (M0.view.read (Elt F) f0)) 17).1 := by
  show ((step (step (step (step (step (step (bodyRun.sl.r_2 c M0 f0, bodyRun.sl.r_3 c M0 f0) (sc c M0 f0 12 inb_S50x8x4096_S1x8x4096_12_0_0) 12) (sc c M0 f0 13 inb_S50x8x4096_S1x8x4096_13_0_0) 13) (sc c M0 f0 14 inb_S50x8x4096_S1x8x4096_14_0_0) 14) (sc c M0 f0 15 inb_S50x8x4096_S1x8x4096_15_0_0) 15) (sc c M0 f0 16 inb_S50x8x4096_S1x8x4096_16_0_0) 16) (sc c M0 f0 17 inb_S50x8x4096_S1x8x4096_17_0_0) 17)).1 = _
  simp only [run_r_2, run_r_3, sc_eq]
  rfl

theorem run_r_5 (c : Dev nD) (M0 : Memref sig .tc .vmem S50x8x4096 .f32) (f0 : Bf (F := F) c M0) :
    bodyRun.sl.r_5 c M0 f0 = (amaxV (slab (M0.view.read (Elt F) f0)) 17).2 := by
  show ((step (step (step (step (step (step (bodyRun.sl.r_2 c M0 f0, bodyRun.sl.r_3 c M0 f0) (sc c M0 f0 12 inb_S50x8x4096_S1x8x4096_12_0_0) 12) (sc c M0 f0 13 inb_S50x8x4096_S1x8x4096_13_0_0) 13) (sc c M0 f0 14 inb_S50x8x4096_S1x8x4096_14_0_0) 14) (sc c M0 f0 15 inb_S50x8x4096_S1x8x4096_15_0_0) 15) (sc c M0 f0 16 inb_S50x8x4096_S1x8x4096_16_0_0) 16) (sc c M0 f0 17 inb_S50x8x4096_S1x8x4096_17_0_0) 17)).2 = _
  simp only [run_r_2, run_r_3, sc_eq]
  rfl

theorem run_r_6 (c : Dev nD) (M0 : Memref sig .tc .vmem S50x8x4096 .f32) (f0 : Bf (F := F) c M0) :
    bodyRun.sl.r_6 c M0 f0 = (amaxV (slab (M0.view.read (Elt F) f0)) 23).1 := by
  show ((step (step (step (step (step (step (bodyRun.sl.r_4 c M0 f0, bodyRun.sl.r_5 c M0 f0) (sc c M0 f0 18 inb_S50x8x4096_S1x8x4096_18_0_0) 18) (sc c M0 f0 19 inb_S50x8x4096_S1x8x4096_19_0_0) 19) (sc c M0 f0 20 inb_S50x8x4096_S1x8x4096_20_0_0) 20) (sc c M0 f0 21 inb_S50x8x4096_S1x8x4096_21_0_0) 21) (sc c M0 f0 22 inb_S50x8x4096_S1x8x4096_22_0_0) 22) (sc c M0 f0 23 inb_S50x8x4096_S1x8x4096_23_0_0) 23)).1 = _
  simp only [run_r_4, run_r_5, sc_eq]
  rfl

theorem run_r_7 (c : Dev nD) (M0 : Memref sig .tc .vmem S50x8x4096 .f32) (f0 : Bf (F := F) c M0) :
    bodyRun.sl.r_7 c M0 f0 = (amaxV (slab (M0.view.read (Elt F) f0)) 23).2 := by
  show ((step (step (step (step (step (step (bodyRun.sl.r_4 c M0 f0, bodyRun.sl.r_5 c M0 f0) (sc c M0 f0 18 inb_S50x8x4096_S1x8x4096_18_0_0) 18) (sc c M0 f0 19 inb_S50x8x4096_S1x8x4096_19_0_0) 19) (sc c M0 f0 20 inb_S50x8x4096_S1x8x4096_20_0_0) 20) (sc c M0 f0 21 inb_S50x8x4096_S1x8x4096_21_0_0) 21) (sc c M0 f0 22 inb_S50x8x4096_S1x8x4096_22_0_0) 22) (sc c M0 f0 23 inb_S50x8x4096_S1x8x4096_23_0_0) 23)).2 = _
  simp only [run_r_4, run_r_5, sc_eq]
  rfl

theorem run_r_8 (c : Dev nD) (M0 : Memref sig .tc .vmem S50x8x4096 .f32) (f0 : Bf (F := F) c M0) :
    bodyRun.sl.r_8 c M0 f0 = (amaxV (slab (M0.view.read (Elt F) f0)) 29).1 := by
  show ((step (step (step (step (step (step (bodyRun.sl.r_6 c M0 f0, bodyRun.sl.r_7 c M0 f0) (sc c M0 f0 24 inb_S50x8x4096_S1x8x4096_24_0_0) 24) (sc c M0 f0 25 inb_S50x8x4096_S1x8x4096_25_0_0) 25) (sc c M0 f0 26 inb_S50x8x4096_S1x8x4096_26_0_0) 26) (sc c M0 f0 27 inb_S50x8x4096_S1x8x4096_27_0_0) 27) (sc c M0 f0 28 inb_S50x8x4096_S1x8x4096_28_0_0) 28) (sc c M0 f0 29 inb_S50x8x4096_S1x8x4096_29_0_0) 29)).1 = _
  simp only [run_r_6, run_r_7, sc_eq]
  rfl

theorem run_r_9 (c : Dev nD) (M0 : Memref sig .tc .vmem S50x8x4096 .f32) (f0 : Bf (F := F) c M0) :
    bodyRun.sl.r_9 c M0 f0 = (amaxV (slab (M0.view.read (Elt F) f0)) 29).2 := by
  show ((step (step (step (step (step (step (bodyRun.sl.r_6 c M0 f0, bodyRun.sl.r_7 c M0 f0) (sc c M0 f0 24 inb_S50x8x4096_S1x8x4096_24_0_0) 24) (sc c M0 f0 25 inb_S50x8x4096_S1x8x4096_25_0_0) 25) (sc c M0 f0 26 inb_S50x8x4096_S1x8x4096_26_0_0) 26) (sc c M0 f0 27 inb_S50x8x4096_S1x8x4096_27_0_0) 27) (sc c M0 f0 28 inb_S50x8x4096_S1x8x4096_28_0_0) 28) (sc c M0 f0 29 inb_S50x8x4096_S1x8x4096_29_0_0) 29)).2 = _
  simp only [run_r_6, run_r_7, sc_eq]
  rfl

theorem run_r_10 (c : Dev nD) (M0 : Memref sig .tc .vmem S50x8x4096 .f32) (f0 : Bf (F := F) c M0) :
    bodyRun.sl.r_10 c M0 f0 = (amaxV (slab (M0.view.read (Elt F) f0)) 35).1 := by
  show ((step (step (step (step (step (step (bodyRun.sl.r_8 c M0 f0, bodyRun.sl.r_9 c M0 f0) (sc c M0 f0 30 inb_S50x8x4096_S1x8x4096_30_0_0) 30) (sc c M0 f0 31 inb_S50x8x4096_S1x8x4096_31_0_0) 31) (sc c M0 f0 32 inb_S50x8x4096_S1x8x4096_32_0_0) 32) (sc c M0 f0 33 inb_S50x8x4096_S1x8x4096_33_0_0) 33) (sc c M0 f0 34 inb_S50x8x4096_S1x8x4096_34_0_0) 34) (sc c M0 f0 35 inb_S50x8x4096_S1x8x4096_35_0_0) 35)).1 = _
  simp only [run_r_8, run_r_9, sc_eq]
  rfl

theorem run_r_11 (c : Dev nD) (M0 : Memref sig .tc .vmem S50x8x4096 .f32) (f0 : Bf (F := F) c M0) :
    bodyRun.sl.r_11 c M0 f0 = (amaxV (slab (M0.view.read (Elt F) f0)) 35).2 := by
  show ((step (step (step (step (step (step (bodyRun.sl.r_8 c M0 f0, bodyRun.sl.r_9 c M0 f0) (sc c M0 f0 30 inb_S50x8x4096_S1x8x4096_30_0_0) 30) (sc c M0 f0 31 inb_S50x8x4096_S1x8x4096_31_0_0) 31) (sc c M0 f0 32 inb_S50x8x4096_S1x8x4096_32_0_0) 32) (sc c M0 f0 33 inb_S50x8x4096_S1x8x4096_33_0_0) 33) (sc c M0 f0 34 inb_S50x8x4096_S1x8x4096_34_0_0) 34) (sc c M0 f0 35 inb_S50x8x4096_S1x8x4096_35_0_0) 35)).2 = _
  simp only [run_r_8, run_r_9, sc_eq]
  rfl

theorem run_r_12 (c : Dev nD) (M0 : Memref sig .tc .vmem S50x8x4096 .f32) (f0 : Bf (F := F) c M0) :
    bodyRun.sl.r_12 c M0 f0 = (amaxV (slab (M0.view.read (Elt F) f0)) 41).1 := by
  show ((step (step (step (step (step (step (bodyRun.sl.r_10 c M0 f0, bodyRun.sl.r_11 c M0 f0) (sc c M0 f0 36 inb_S50x8x4096_S1x8x4096_36_0_0) 36) (sc c M0 f0 37 inb_S50x8x4096_S1x8x4096_37_0_0) 37) (sc c M0 f0 38 inb_S50x8x4096_S1x8x4096_38_0_0) 38) (sc c M0 f0 39 inb_S50x8x4096_S1x8x4096_39_0_0) 39) (sc c M0 f0 40 inb_S50x8x4096_S1x8x4096_40_0_0) 40) (sc c M0 f0 41 inb_S50x8x4096_S1x8x4096_41_0_0) 41)).1 = _
  simp only [run_r_10, run_r_11, sc_eq]
  rfl

theorem run_r_13 (c : Dev nD) (M0 : Memref sig .tc .vmem S50x8x4096 .f32) (f0 : Bf (F := F) c M0) :
    bodyRun.sl.r_13 c M0 f0 = (amaxV (slab (M0.view.read (Elt F) f0)) 41).2 := by
  show ((step (step (step (step (step (step (bodyRun.sl.r_10 c M0 f0, bodyRun.sl.r_11 c M0 f0) (sc c M0 f0 36 inb_S50x8x4096_S1x8x4096_36_0_0) 36) (sc c M0 f0 37 inb_S50x8x4096_S1x8x4096_37_0_0) 37) (sc c M0 f0 38 inb_S50x8x4096_S1x8x4096_38_0_0) 38) (sc c M0 f0 39 inb_S50x8x4096_S1x8x4096_39_0_0) 39) (sc c M0 f0 40 inb_S50x8x4096_S1x8x4096_40_0_0) 40) (sc c M0 f0 41 inb_S50x8x4096_S1x8x4096_41_0_0) 41)).2 = _
  simp only [run_r_10, run_r_11, sc_eq]
  rfl

theorem run_r_14 (c : Dev nD) (M0 : Memref sig .tc .vmem S50x8x4096 .f32) (f0 : Bf (F := F) c M0) :
    bodyRun.sl.r_14 c M0 f0 = (amaxV (slab (M0.view.read (Elt F) f0)) 47).1 := by
  show ((step (step (step (step (step (step (bodyRun.sl.r_12 c M0 f0, bodyRun.sl.r_13 c M0 f0) (sc c M0 f0 42 inb_S50x8x4096_S1x8x4096_42_0_0) 42) (sc c M0 f0 43 inb_S50x8x4096_S1x8x4096_43_0_0) 43) (sc c M0 f0 44 inb_S50x8x4096_S1x8x4096_44_0_0) 44) (sc c M0 f0 45 inb_S50x8x4096_S1x8x4096_45_0_0) 45) (sc c M0 f0 46 inb_S50x8x4096_S1x8x4096_46_0_0) 46) (sc c M0 f0 47 inb_S50x8x4096_S1x8x4096_47_0_0) 47)).1 = _
  simp only [run_r_12, run_r_13, sc_eq]
  rfl

theorem run_r_15 (c : Dev nD) (M0 : Memref sig .tc .vmem S50x8x4096 .f32) (f0 : Bf (F := F) c M0) :
    bodyRun.sl.r_15 c M0 f0 = (amaxV (slab (M0.view.read (Elt F) f0)) 47).2 := by
  show ((step (step (step (step (step (step (bodyRun.sl.r_12 c M0 f0, bodyRun.sl.r_13 c M0 f0) (sc c M0 f0 42 inb_S50x8x4096_S1x8x4096_42_0_0) 42) (sc c M0 f0 43 inb_S50x8x4096_S1x8x4096_43_0_0) 43) (sc c M0 f0 44 inb_S50x8x4096_S1x8x4096_44_0_0) 44) (sc c M0 f0 45 inb_S50x8x4096_S1x8x4096_45_0_0) 45) (sc c M0 f0 46 inb_S50x8x4096_S1x8x4096_46_0_0) 46) (sc c M0 f0 47 inb_S50x8x4096_S1x8x4096_47_0_0) 47)).2 = _
  simp only [run_r_12, run_r_13, sc_eq]
  rfl

/-- The contents the run leaves, read as a block, are the block's indices. -/
theorem bodyRun_read (c : Dev nD) (i : grid0.Coords) (M0 : Memref sig .tc .vmem S50x8x4096 .f32) (h0 : M0.IsWhole)
    (M1 : Memref sig .tc .vmem S8x4096 .i32) (h1 : M1.IsWhole) (f0 : Bf (F := F) c M0) :
    M1.view.read (Elt F) (bodyRun (Ix := Ix) (U := U) c i M0 h0 M1 h1 f0).1 = argBlk (M0.view.read (Elt F) f0) := by
  have e1 : (bodyRun (Ix := Ix) (U := U) c i M0 h0 M1 h1 f0).1
      = M1.view.writes (Elt F) M1.view.junk (bodyRun.sl.H1_1 c M0 f0) := by
    unfold bodyRun; dsimp only
  rw [e1, View.read_writes_junk_eq_canon]
  funext x
  have hx : (Rect.unit (s := S8x4096) ![0, 0] S8x4096.size inb_S8x4096_S8x4096_0_0).emb x = x := by
    funext k; apply Fin.ext; show ![0, 0] k + 1 * (x k).val = _; fin_cases k <;> simp
  refine (congrArg _ hx.symm).trans ((View.canon_cons_emb _ _ _ _).trans ?_)
  show ((step (step (bodyRun.sl.r_14 c M0 f0, bodyRun.sl.r_15 c M0 f0) (sc c M0 f0 48 inb_S50x8x4096_S1x8x4096_48_0_0) 48) (sc c M0 f0 49 inb_S50x8x4096_S1x8x4096_49_0_0) 49)).2 x = _
  simp only [run_r_14, run_r_15, sc_eq]
  rfl

end Cert.Proof.Argmax
-- ==== Proof.Setup.lean ====
/-
  The program as the launch theorem reads it: the configuration, the resource algebra, the arrays' locations.
-/
module

public import proofs.«01_k».proof.Defs
public import proofs.«01_k».proof.Proof.ArgmaxValue
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the lifted program: the kernels' and the pipeline's entry. -/
abbrev ΛP : Labels := Pipeline.Sig Λ₀ (Fin 1) fun p => (pcfgs (F := F) p).Adm
/-- The SparseCore configuration. -/
abbrev K : SparseCore.Cfg τ sig (ΛP (F := F)) 1 := sc (F := F)
/-- The lifted definitions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds. -/
abbrev UP : Type := URounds (GSem nD τ sig) Unit
/-- The whole user algebra: the handshakes' rounds, the pipeline's, the copies' counters. -/
abbrev UU : Type := UH × (UP × Counters)

/-- The handshakes' rounds in the machine's algebra. -/
abbrev EH : Emb UH (MT nD τ sig (HIx 1) (Elt F) ℕ UU ℕ) := embL
/-- The pipeline's rounds in the machine's algebra. -/
abbrev EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.Seg
-- ==== Proof.Scatter.lean ====
module

public import proofs.«01_k».proof.Proof.Setup
public import Idealize.ShloMosaic.Lib.SparseCore.Ops

/-!
  What one indexed store with addition does to the histogram, when its sixteen lanes name sixteen distinct cells, and
  the closed form of one combined step of the kernel: sixteen predictions and sixteen labels, one per lane, each lane
  adding to its own sixty-four cells.
-/

@[expose] public section

noncomputable section

namespace Cert.Proof.Seg

open Cert.KernelIdeal Cert.KernelIdeal.Gen
open Idealize.ShloMosaic

variable {F : FTy → Type} [FloatOps F]

/-- The index of a sixteen-vector at lane `k`. -/
abbrev ln (k : Fin 16) : S16.Idx := Shape.ofLane (d := ![16]) k

/-- A step of the fold over lanes: lane `k` adds its value to its cell. -/
theorem fold_lanes (cell : Fin 16 → S2048.Idx) (v : Fin 16 → F .f32) (ln : S2048.Idx → Fin 16)
    (hcell : ∀ k j, cell k = j → k = ln j) (j : S2048.Idx) (l : List (Fin 16)) (hl : l.Nodup) (f : S2048.Idx → F .f32) :
    l.foldl (fun g k => fun j => if (∀ a, (j a).val = (cell k a).val) then FloatOps.idxAddf (g (cell k)) (v k) else g j) f j
      = if ln j ∈ l ∧ cell (ln j) = j then FloatOps.idxAddf (f j) (v (ln j)) else f j := by
  induction l generalizing f with
  | nil => simp
  | cons k l ih =>
    obtain ⟨hk, hl⟩ := List.nodup_cons.mp hl
    rw [List.foldl_cons, ih hl]
    have hiff : (∀ a, (j a).val = (cell k a).val) ↔ cell k = j :=
      ⟨fun h => funext fun a => Fin.ext (h a).symm, fun h a => by rw [h]⟩
    by_cases hc : cell k = j
    · have e := hcell k j hc
      have h1 : ln j ∉ l := e ▸ hk
      have h2 : cell (ln j) = j := e ▸ hc
      rw [if_neg (fun h => h1 h.1), if_pos (hiff.mpr hc), if_pos ⟨by rw [← e]; exact List.mem_cons_self, h2⟩, hc, ← e]
    · have h1 : (∀ a, (j a).val = (cell k a).val) ↔ False := ⟨fun h => hc (hiff.mp h), False.elim⟩
      have h2 : (ln j ∈ k :: l ∧ cell (ln j) = j) ↔ (ln j ∈ l ∧ cell (ln j) = j) := by
        constructor
        · rintro ⟨h, h'⟩
          rcases List.mem_cons.mp h with h | h
          · exact absurd (h ▸ h') hc
          · exact ⟨h, h'⟩
        · rintro ⟨h, h'⟩; exact ⟨List.mem_cons_of_mem _ h, h'⟩
      simp only [h1, h2, if_false]

/-- An indexed store with addition whose lanes name distinct cells: the cell of lane `ln j` gets that lane's value
added, every other cell keeps its value. -/
theorem storeIdx_lanes (f : Vec F S2048 .f32) (ix : IVec S16 32) (v : FVec F S16 .f32)
    (h : ∀ a x, ((![ix] : Fin 1 → IVec S16 32) a x).toNat < S2048.size a) (lane : S2048.Idx → Fin 16)
    (hlane : ∀ (k : Fin 16) (j : S2048.Idx), (ix (ln k)).toNat = (j 0).val → k = lane j) (j : S2048.Idx) :
    storeIdx f ![ix] v (fun _ => 1#1) true h j
      = if (ix (ln (lane j))).toNat = (j 0).val then FloatOps.idxAddf (f j) (v (ln (lane j))) else f j := by
  have key := fold_lanes (F := F) (fun k => idxAt ![ix] h (ln k)) (fun k => v (ln k)) lane
    (fun k j e => hlane k j (by rw [← e]; rfl)) j (List.finRange 16) (List.nodup_finRange 16) f
  refine Eq.trans ?_ (key.trans ?_)
  · unfold storeIdx
    simp only [if_true, Elt.idxAdd_f32]
    rfl
  · have e : (lane j ∈ List.finRange 16 ∧ idxAt ![ix] h (ln (lane j)) = j) ↔ (ix (ln (lane j))).toNat = (j 0).val := by
      constructor
      · rintro ⟨_, h'⟩; exact congrArg (fun y : S2048.Idx => (y 0).val) h'
      · intro h'
        refine ⟨List.mem_finRange _, funext fun a => ?_⟩
        fin_cases a
        exact Fin.ext h'
    simp only [e]

/-- The lane owning a cell of the histogram: each half has sixteen runs of sixty-four cells. -/
def laneOf (j : S2048.Idx) : Fin 16 := ⟨(j 0).val % 1024 / 64, by have := Nat.mod_lt (j 0).val (show 0 < 1024 by decide); omega⟩

/-- The two weights an indexed store adds: the first counts a match in the high part, the second does not. -/
def wHit : F .f32 := Scalar.ofBits .f32 0x46000400#32
/-- One. -/
def wOne : F .f32 := Scalar.ofBits .f32 0x3F800000#32

/-- One combined step at one cell: sixteen predictions `p` and labels `l`, a lane each. Cells of the lower half count
the predictions (with the match weight where prediction and label agree), those of the upper half the labels. -/
def hstep (p l : S16.Idx → BitVec 32) (h : S2048.Idx → F .f32) : S2048.Idx → F .f32 := fun j =>
  if (j 0).val < 1024 then
    if (p (ln (laneOf j))).toNat = (j 0).val % 64 then
      FloatOps.idxAddf (h j) (if p (ln (laneOf j)) = l (ln (laneOf j)) then wHit else wOne)
    else h j
  else if (l (ln (laneOf j))).toNat = (j 0).val % 64 then FloatOps.idxAddf (h j) wOne else h j

/-- The first cell of each lane's run. -/
def lbase : IVec S16 32 := k1_pay20 (iota .scVector S16 32 [0] iota_S16_d0_w32_scVector) k1_pay19

theorem lbase_toNat (k : Fin 16) : (lbase (ln k)).toNat = 64 * k.val := by
  revert k; decide

theorem addi_lo (p : IVec S16 32) (hp : ∀ x, (p x).toNat < 64) (k : Fin 16) :
    (addi lbase p (ln k)).toNat = 64 * k.val + (p (ln k)).toNat := by
  show (lbase (ln k) + p (ln k)).toNat = _
  rw [BitVec.toNat_add, lbase_toNat, Nat.mod_eq_of_lt]
  have := hp (ln k); omega

theorem addi_hi (l : IVec S16 32) (hl : ∀ x, (l x).toNat < 64) (k : Fin 16) :
    (addi lbase (addi l (broadcast S16 1024#32)) (ln k)).toNat = 1024 + 64 * k.val + (l (ln k)).toNat := by
  show (lbase (ln k) + (l (ln k) + 1024#32)).toNat = _
  have := hl (ln k)
  rw [BitVec.toNat_add, BitVec.toNat_add, lbase_toNat, show (1024#32).toNat = 1024 from rfl, Nat.mod_eq_of_lt (a := (l (ln k)).toNat + 1024) (by omega),
    Nat.mod_eq_of_lt (by omega)]
  omega

/-- Every index of a sixteen-vector is a lane's. -/
theorem eq_ln (x : S16.Idx) : ∃ k : Fin 16, x = ln k :=
  ⟨x 0, by funext a; fin_cases a; rfl⟩

/-- The cells the predictions name are inside the histogram. -/
theorem chk_lo (p : IVec S16 32) (hp : ∀ x, (p x).toNat < 64) :
    ∀ a x, ((![addi lbase p] : Fin 1 → IVec S16 32) a x).toNat < S2048.size a := by
  intro a x
  fin_cases a
  show (addi lbase p x).toNat < 2048
  obtain ⟨k, rfl⟩ := eq_ln x
  rw [addi_lo p hp]
  have := hp (ln k); have := k.isLt; omega

/-- The cells the labels name are inside the histogram. -/
theorem chk_hi (l : IVec S16 32) (hl : ∀ x, (l x).toNat < 64) :
    ∀ a x, ((![addi lbase (addi l (broadcast S16 1024#32))] : Fin 1 → IVec S16 32) a x).toNat < S2048.size a := by
  intro a x
  fin_cases a
  show (addi lbase (addi l (broadcast S16 1024#32)) x).toNat < 2048
  obtain ⟨k, rfl⟩ := eq_ln x
  rw [addi_hi l hl]
  have := hl (ln k); have := k.isLt; omega

/-- The two indexed stores of a step, one after the other, are the closed form. -/
theorem two_stores (h : Vec F S2048 .f32) (p l : IVec S16 32) (hp : ∀ x, (p x).toNat < 64) (hl : ∀ x, (l x).toNat < 64)
    (h1 : ∀ a x, ((![addi lbase p] : Fin 1 → IVec S16 32) a x).toNat < S2048.size a)
    (h2 : ∀ a x, ((![addi lbase (addi l (broadcast S16 1024#32))] : Fin 1 → IVec S16 32) a x).toNat < S2048.size a) :
    storeIdx (storeIdx h ![addi lbase p] (select (cmpi .eq p l) (broadcast S16 wHit) (broadcast S16 wOne)) (fun _ => 1#1) true h1)
        ![addi lbase (addi l (broadcast S16 1024#32))] (broadcast S16 (wOne (F := F))) (fun _ => 1#1) true h2
      = hstep p l h := by
  funext j
  have hj : (j 0).val < 2048 := (j 0).isLt
  rw [storeIdx_lanes _ _ _ h2 laneOf, storeIdx_lanes _ _ _ h1 laneOf, addi_lo p hp, addi_hi l hl]
  · unfold hstep
    have hp' := hp (ln (laneOf j))
    have hl' := hl (ln (laneOf j))
    have e : (laneOf j).val = (j 0).val % 1024 / 64 := rfl
    have hsel : select (cmpi .eq p l) (broadcast S16 wHit) (broadcast S16 (wOne (F := F))) (ln (laneOf j))
        = if p (ln (laneOf j)) = l (ln (laneOf j)) then wHit else wOne := by
      show (if BitVec.ofBool (p (ln (laneOf j)) == l (ln (laneOf j))) = 1#1 then wHit else wOne) = _
      by_cases hh : p (ln (laneOf j)) = l (ln (laneOf j))
      · have e1 : BitVec.ofBool (p (ln (laneOf j)) == l (ln (laneOf j))) = 1#1 := by rw [hh]; simp
        rw [if_pos hh, if_pos e1]
      · have e1 : ¬ BitVec.ofBool (p (ln (laneOf j)) == l (ln (laneOf j))) = 1#1 := by
          rw [beq_eq_false_iff_ne.mpr hh]; decide
        rw [if_neg hh, if_neg e1]
    rw [hsel]
    by_cases hlt : (j 0).val < 1024
    · have a1 : ¬ (1024 + 64 * (laneOf j).val + (l (ln (laneOf j))).toNat = (j 0).val) := by omega
      have a2 : (64 * (laneOf j).val + (p (ln (laneOf j))).toNat = (j 0).val) ↔ (p (ln (laneOf j))).toNat = (j 0).val % 64 := by omega
      simp only [a1, a2, hlt, if_true, if_false]
    · have a1 : ¬ (64 * (laneOf j).val + (p (ln (laneOf j))).toNat = (j 0).val) := by omega
      have a2 : (1024 + 64 * (laneOf j).val + (l (ln (laneOf j))).toNat = (j 0).val) ↔ (l (ln (laneOf j))).toNat = (j 0).val % 64 := by omega
      simp only [a1, a2, hlt, if_false]
      rfl
  · intro k j hk
    rw [addi_lo p hp] at hk
    have := hp (ln k); have := k.isLt
    exact Fin.ext (show k.val = (j 0).val % 1024 / 64 by omega)
  · intro k j hk
    rw [addi_hi l hl] at hk
    have := hl (ln k); have := k.isLt
    exact Fin.ext (show k.val = (j 0).val % 1024 / 64 by omega)

end Cert.Proof.Seg
-- ==== Proof.Trip.lean ====
module

public import proofs.«01_k».proof.Proof.Scatter

/-!
  The two counted loops of the SparseCore kernel: a trip of either runs four combined steps, and the histogram held
  before and after is the closed form at the step counted so far.
-/

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The predictions of the whole image, as a tile's memref. -/
abbrev pW : Memref sig .scVector .hbm S64x4096 .i32 := Memref.whole main_v1_scv
/-- The labels. -/
abbrev lW : Memref sig .scVector .hbm S64x4096 .i32 := Memref.whole main_arg1_scv
/-- The partial results, a row per tile. -/
abbrev oW : Memref sig .scVector .hbm S32x192 .f32 := Memref.whole main_v2_scv
/-- A tile's copy of its two rows of predictions. -/
abbrev s0 : Memref sig .scVector .vmem S2x4096 .i32 := Memref.whole cc1_scratch0
/-- A tile's copy of its two rows of labels. -/
abbrev s1 : Memref sig .scVector .vmem S2x4096 .i32 := Memref.whole cc1_scratch1
/-- A tile's histogram, sixty-four cells a lane and half. -/
abbrev s2 : Memref sig .scVector .vmem S2048 .f32 := Memref.whole cc1_scratch2
/-- A tile's row of partial results. -/
abbrev s3 : Memref sig .scVector .vmem S192 .f32 := Memref.whole cc1_scratch3

/-- The SparseCore of a tile's coordinates. -/
abbrev cV (L : grid1.Coords) : Fin τ.nSC := (L 0).castLE hcore1
/-- Its subcore. -/
abbrev jV (L : grid1.Coords) : Fin τ.nSub := (L 1).castLE hsub1
/-- The thread of a tile. -/
abbrev thr (d : Dev nD) (L : grid1.Coords) : Thread nD τ := V d (cV L) (jV L)

/-- A position of a tile's two rows, from a row and a column. -/
def ix2 (r c : ℕ) : S2x4096.Idx :=
  Fin.cons (α := fun k => Fin (S2x4096.size k)) (⟨r % 2, Nat.mod_lt _ (by decide)⟩ : Fin 2)
    (Fin.cons (α := fun k => Fin (S2x4096.size k.succ)) (⟨c % 4096, Nat.mod_lt _ (by decide)⟩ : Fin 4096) (fun k => k.elim0))

/-- The sixteen values step `n` reads: row `n / 256`, columns from sixteen times `n % 256`. -/
def rowAt (P : S2x4096.Idx → BitVec 32) (n : ℕ) : S16.Idx → BitVec 32 := fun x => P (ix2 (n / 256) (n % 256 * 16 + (x 0).val))

/-- A load of sixteen columns of one row, as a vector of sixteen. -/
theorem ld_row (c : Thread nD τ) (M : Memref sig c.2.kind .vmem S2x4096 .i32) (f : Buf (Elt F) (M.view.loc c)) (off : Fin 2 → ℕ)
    (inb : ∀ k, off k + S1x16.size k ≤ S2x4096.size k) (n : ℕ) (hn : n < 512) (hoff : off = ![n / 256, n % 256 * 16]) :
    shapeCast S16 (View.readAt (Elt F) M.view (Rect.unit (s := S2x4096) off S1x16.size inb).toLoadRect f) shapeCasts_S1x16_S16
      = rowAt (M.view.read (Elt F) f) n := by
  subst hoff
  funext j
  refine (shapeCast_dropUnit_apply ![16] _ _ j).trans ?_
  show View.read (Elt F) M.view f _ = View.read (Elt F) M.view f _
  congr 1
  funext k
  apply Fin.ext
  have hj : (j 0).val < 16 := (j 0).isLt
  fin_cases k
  · show n / 256 + 1 * 0 = n / 256 % 2
    omega
  · show n % 256 * 16 + 1 * (j 0).val = (n % 256 * 16 + (j 0).val) % 4096
    omega

/-- The histogram after `n` combined steps over rows `P` of predictions and `L` of labels. -/
def hist (P L : S2x4096.Idx → BitVec 32) : ℕ → S2048.Idx → F .f32
  | 0 => fun _ => Scalar.ofBits .f32 0x00000000#32
  | n + 1 => hstep (rowAt P n) (rowAt L n) (hist P L n)

theorem off2_eq : ∀ k : Fin k1_t1_loop.trips, k1_off2 k = ![(4 * k.val) / 256, (4 * k.val) % 256 * 16] := by decide
theorem off3_eq : ∀ k : Fin k1_t1_loop.trips, k1_off3 k = ![(4 * k.val + 1) / 256, (4 * k.val + 1) % 256 * 16] := by decide
theorem off4_eq : ∀ k : Fin k1_t1_loop.trips, k1_off4 k = ![(4 * k.val + 2) / 256, (4 * k.val + 2) % 256 * 16] := by decide
theorem off5_eq : ∀ k : Fin k1_t1_loop.trips, k1_off5 k = ![(4 * k.val + 3) / 256, (4 * k.val + 3) % 256 * 16] := by decide
theorem off6_eq : ∀ k : Fin k1_t2_loop.trips, k1_off6 k = ![(256 + 4 * k.val) / 256, (256 + 4 * k.val) % 256 * 16] := by decide
theorem off7_eq : ∀ k : Fin k1_t2_loop.trips, k1_off7 k = ![(256 + 4 * k.val + 1) / 256, (256 + 4 * k.val + 1) % 256 * 16] := by decide
theorem off8_eq : ∀ k : Fin k1_t2_loop.trips, k1_off8 k = ![(256 + 4 * k.val + 2) / 256, (256 + 4 * k.val + 2) % 256 * 16] := by decide
theorem off9_eq : ∀ k : Fin k1_t2_loop.trips, k1_off9 k = ![(256 + 4 * k.val + 3) / 256, (256 + 4 * k.val + 3) % 256 * 16] := by decide

/-- An indexed store with addition into the histogram held whole: it is then held at the result. -/
theorem wp_scat (d : Dev nD) (L : grid1.Coords) (ix : IVec S16 32) (v : FVec F S16 .f32)
    (h : ∀ a x, ((![ix] : Fin 1 → IVec S16 32) a x).toNat < S2048.size a) (hs : (s2.access (.whole S2048)).Stores Finset.univ)
    (f : S2048.Idx → F .f32) {α : Type} (k : PUnit → Prog (TpuEff nD τ sig (Elt F) Λ₀ (.scVector (cV L) (jV L))) α) (Q : α → sProp 𝕄) :
    (s2.view.loc (thr d L) ↦{fullShare} f : sProp 𝕄)
      ⊢ iprop(((s2.view.loc (thr d L) ↦{fullShare} storeIdx (s := S2048) (e := .f32) f ![ix] v (fun _ => 1#1) true h)
          -∗ wp frame (wpE (defs₀ (F := F)) 𝒱₀ (thr d L) none) Set.univ (k ⟨⟩) Q)
        -∗ wp frame (wpE (defs₀ (F := F)) 𝒱₀ (thr d L) none) Set.univ (SparseCore.vectorStoreIdx s2 ![ix] v (fun _ => 1#1) true h hs >>= k) Q) := by
  have key := SparseCore.wp_vectorStoreIdx (Q := Q) (defs := defs₀ (F := F)) 𝒱₀ (thr d L) none Set.univ (base := s2) (idxs := ![ix]) (v := v)
    (mask := fun _ => 1#1) (add := true) (h := h) (hs := hs) (k := k) (f := f)
  have e1 : (s2.access (.whole S2048)).set = Finset.univ := Memref.set_access_whole (cc1_scratch2 : Ref sig .scVector)
  have e2 : (s2.access (.whole S2048)).write (Elt F) f (storeIdx (s := S2048) (e := .f32) ((s2.access (.whole S2048)).read (Elt F) f) ![ix] v (fun _ => 1#1) true h) Finset.univ
      = storeIdx (s := S2048) (e := .f32) f ![ix] v (fun _ => 1#1) true h :=
    (Memref.write_access_whole_univ (Elt F) (cc1_scratch2 : Ref sig .scVector) f _).trans
      (congrArg (fun g : Vec F S2048 .f32 => storeIdx (s := S2048) (e := .f32) g ![ix] v (fun _ => 1#1) true h)
        (Memref.read_access_whole (Elt F) (cc1_scratch2 : Ref sig .scVector) f))
  rw [e1, e2] at key
  exact key

/-- The same, holding it afterwards at contents given as equal to the result. -/
theorem wp_scat_to (d : Dev nD) (L : grid1.Coords) (g : S2048.Idx → F .f32) {ix : IVec S16 32} {v : FVec F S16 .f32}
    {h : ∀ a x, ((![ix] : Fin 1 → IVec S16 32) a x).toNat < S2048.size a} {hs : (s2.access (.whole S2048)).Stores Finset.univ}
    {f : S2048.Idx → F .f32} {α : Type} {k : PUnit → Prog (TpuEff nD τ sig (Elt F) Λ₀ (.scVector (cV L) (jV L))) α} {Q : α → sProp 𝕄}
    (hg : storeIdx (s := S2048) (e := .f32) f ![ix] v (fun _ => 1#1) true h = g) :
    (s2.view.loc (thr d L) ↦{fullShare} f : sProp 𝕄)
      ⊢ iprop(((s2.view.loc (thr d L) ↦{fullShare} g)
          -∗ wp frame (wpE (defs₀ (F := F)) 𝒱₀ (thr d L) none) Set.univ (k ⟨⟩) Q)
        -∗ wp frame (wpE (defs₀ (F := F)) 𝒱₀ (thr d L) none) Set.univ (SparseCore.vectorStoreIdx s2 ![ix] v (fun _ => 1#1) true h hs >>= k) Q) := by
  subst hg; exact wp_scat d L _ _ _ _ _ _ _

theorem chk_at_lo {P : S2x4096.Idx → BitVec 32} {n : ℕ} (p : IVec S16 32) (e : p = rowAt P n)
    (hP : ∀ i, (P i).toNat < 64) : ∀ a x, ((![addi lbase p] : Fin 1 → IVec S16 32) a x).toNat < S2048.size a := by
  subst e; exact chk_lo _ fun x => hP _

theorem chk_at_hi {P : S2x4096.Idx → BitVec 32} {n : ℕ} (p : IVec S16 32) (e : p = rowAt P n)
    (hP : ∀ i, (P i).toNat < 64) :
    ∀ a x, ((![addi lbase (addi p (broadcast S16 1024#32))] : Fin 1 → IVec S16 32) a x).toNat < S2048.size a := by
  subst e; exact chk_hi _ fun x => hP _

/-- The two indexed stores of step `n`, at the rows it reads, take the histogram to the next. -/
theorem two_at (P M : S2x4096.Idx → BitVec 32) (n : ℕ) (hP : ∀ i, (P i).toNat < 64) (hM : ∀ i, (M i).toNat < 64)
    (p l : IVec S16 32) (ep : p = rowAt P n) (el : l = rowAt M n) (h : Vec F S2048 .f32) (hh : h = hist P M n)
    (h1 : ∀ a x, ((![addi lbase p] : Fin 1 → IVec S16 32) a x).toNat < S2048.size a)
    (h2 : ∀ a x, ((![addi lbase (addi l (broadcast S16 1024#32))] : Fin 1 → IVec S16 32) a x).toNat < S2048.size a) :
    storeIdx (storeIdx h ![addi lbase p] (select (cmpi .eq p l) (broadcast S16 wHit) (broadcast S16 wOne)) (fun _ => 1#1) true h1)
        ![addi lbase (addi l (broadcast S16 1024#32))] (broadcast S16 (wOne (F := F))) (fun _ => 1#1) true h2
      = hist P M (n + 1) := by
  subst ep el hh; exact two_stores _ _ _ (fun x => hP _) (fun x => hM _) _ _

/-- A trip of the loop over row 0: four combined steps. -/
theorem trip1 (d : Dev nD) (L : grid1.Coords) (k : Fin k1_t1_loop.trips) (P M : S2x4096.Idx → BitVec 32)
    (hP : ∀ i, (P i).toNat < 64) (hM : ∀ i, (M i).toNat < 64) (Q : Unit → sProp 𝕄) :
    iprop((s0.view.loc (thr d L) ↦{fullShare} P) ∗ (s1.view.loc (thr d L) ↦{fullShare} M)
        ∗ (s2.view.loc (thr d L) ↦{fullShare} hist P M (4 * k.val))
        ∗ (iprop((s0.view.loc (thr d L) ↦{fullShare} P) ∗ (s1.view.loc (thr d L) ↦{fullShare} M)
            ∗ (s2.view.loc (thr d L) ↦{fullShare} hist P M (4 * k.val + 4))) -∗ Q ⟨⟩))
      ⊢ wp frame (wpE (defs₀ (F := F)) 𝒱₀ (thr d L) none) Set.univ
          (k1_t1_body L pW (Memref.isWhole_whole _) lW (Memref.isWhole_whole _) oW (Memref.isWhole_whole _)
            s0 (Memref.isWhole_whole _) s1 (Memref.isWhole_whole _) s2 (Memref.isWhole_whole _) s3 (Memref.isWhole_whole _)
            cc1_scoped0 cc1_scoped1 cc1_scoped2 k1_pay17 k1_pay18 (iota .scVector S16 32 [0] iota_S16_d0_w32_scVector) k1_pay19
            (Scalar.ofBits .f32 0x46000400#32) (Scalar.ofBits .f32 0x3F800000#32) k ()) Q := by
  have hk : k.val < 64 := k.isLt
  generalize hp : k1_t1_body (F := F) L _ _ _ _ _ _ _ _ _ _ _ _ _ _ _ _ _ _ _ _ _ _ _ _ _ = p
  unfold k1_t1_body at hp
  rw [k1_part1_eq_skeleton] at hp; unfold k1_part1_skel at hp
  simp only [Prog.lift, Prog.bind_op, Prog.bind_ret, Prog.pure_eq_ret, Prog.bind_assoc] at hp
  subst hp
  iintro ⟨H0, H1, H2, Hk⟩
  have ep0 := ld_row (F := F) (thr d L) s0 P _ (k1_off2_inb k) (4 * k.val) (by omega) (off2_eq k)
  have el0 := ld_row (F := F) (thr d L) s1 M _ (k1_off2_inb k) (4 * k.val) (by omega) (off2_eq k)
  sl_exec (disch := exact chk_at_lo _ ep0 hP)
  iapply (wp_scat d L) $$ H2; iintro H2
  sl_exec (disch := exact chk_at_hi _ el0 hM)
  iapply (wp_scat_to d L (hist P M ((4 * k.val) + 1)) ?_) $$ H2
  · exact two_at (F := F) P M (4 * k.val) hP hM _ _ ep0 el0 _ rfl _ _
  iintro H2
  have ep1 := ld_row (F := F) (thr d L) s0 P _ (k1_off3_inb k) (4 * k.val + 1) (by omega) (off3_eq k)
  have el1 := ld_row (F := F) (thr d L) s1 M _ (k1_off3_inb k) (4 * k.val + 1) (by omega) (off3_eq k)
  sl_exec (disch := exact chk_at_lo _ ep1 hP)
  iapply (wp_scat d L) $$ H2; iintro H2
  sl_exec (disch := exact chk_at_hi _ el1 hM)
  iapply (wp_scat_to d L (hist P M ((4 * k.val + 1) + 1)) ?_) $$ H2
  · exact two_at (F := F) P M (4 * k.val + 1) hP hM _ _ ep1 el1 _ rfl _ _
  iintro H2
  have ep2 := ld_row (F := F) (thr d L) s0 P _ (k1_off4_inb k) (4 * k.val + 2) (by omega) (off4_eq k)
  have el2 := ld_row (F := F) (thr d L) s1 M _ (k1_off4_inb k) (4 * k.val + 2) (by omega) (off4_eq k)
  sl_exec (disch := exact chk_at_lo _ ep2 hP)
  iapply (wp_scat d L) $$ H2; iintro H2
  sl_exec (disch := exact chk_at_hi _ el2 hM)
  iapply (wp_scat_to d L (hist P M ((4 * k.val + 2) + 1)) ?_) $$ H2
  · exact two_at (F := F) P M (4 * k.val + 2) hP hM _ _ ep2 el2 _ rfl _ _
  iintro H2
  have ep3 := ld_row (F := F) (thr d L) s0 P _ (k1_off5_inb k) (4 * k.val + 3) (by omega) (off5_eq k)
  have el3 := ld_row (F := F) (thr d L) s1 M _ (k1_off5_inb k) (4 * k.val + 3) (by omega) (off5_eq k)
  sl_exec (disch := exact chk_at_lo _ ep3 hP)
  iapply (wp_scat d L) $$ H2; iintro H2
  sl_exec (disch := exact chk_at_hi _ el3 hM)
  iapply (wp_scat_to d L (hist P M ((4 * k.val + 3) + 1)) ?_) $$ H2
  · exact two_at (F := F) P M (4 * k.val + 3) hP hM _ _ ep3 el3 _ rfl _ _
  iintro H2
  sl_step
  iapply Hk
  isplitl [H0]; · iexact H0
  isplitl [H1]; · iexact H1
  iexact H2

/-- A trip of the loop over row 1: four combined steps. -/
theorem trip2 (d : Dev nD) (L : grid1.Coords) (k : Fin k1_t2_loop.trips) (P M : S2x4096.Idx → BitVec 32)
    (hP : ∀ i, (P i).toNat < 64) (hM : ∀ i, (M i).toNat < 64) (Q : Unit → sProp 𝕄) :
    iprop((s0.view.loc (thr d L) ↦{fullShare} P) ∗ (s1.view.loc (thr d L) ↦{fullShare} M)
        ∗ (s2.view.loc (thr d L) ↦{fullShare} hist P M (256 + 4 * k.val))
        ∗ (iprop((s0.view.loc (thr d L) ↦{fullShare} P) ∗ (s1.view.loc (thr d L) ↦{fullShare} M)
            ∗ (s2.view.loc (thr d L) ↦{fullShare} hist P M (256 + 4 * k.val + 4))) -∗ Q ⟨⟩))
      ⊢ wp frame (wpE (defs₀ (F := F)) 𝒱₀ (thr d L) none) Set.univ
          (k1_t2_body L pW (Memref.isWhole_whole _) lW (Memref.isWhole_whole _) oW (Memref.isWhole_whole _)
            s0 (Memref.isWhole_whole _) s1 (Memref.isWhole_whole _) s2 (Memref.isWhole_whole _) s3 (Memref.isWhole_whole _)
            cc1_scoped0 cc1_scoped1 cc1_scoped2 k1_pay17 k1_pay18 (iota .scVector S16 32 [0] iota_S16_d0_w32_scVector) k1_pay19
            (Scalar.ofBits .f32 0x46000400#32) (Scalar.ofBits .f32 0x3F800000#32) k ()) Q := by
  have hk : k.val < 64 := k.isLt
  generalize hp : k1_t2_body (F := F) L _ _ _ _ _ _ _ _ _ _ _ _ _ _ _ _ _ _ _ _ _ _ _ _ _ = p
  unfold k1_t2_body at hp
  rw [k1_part2_eq_skeleton] at hp; unfold k1_part2_skel at hp
  simp only [Prog.lift, Prog.bind_op, Prog.bind_ret, Prog.pure_eq_ret, Prog.bind_assoc] at hp
  subst hp
  iintro ⟨H0, H1, H2, Hk⟩
  have ep0 := ld_row (F := F) (thr d L) s0 P _ (k1_off6_inb k) (256 + 4 * k.val) (by omega) (off6_eq k)
  have el0 := ld_row (F := F) (thr d L) s1 M _ (k1_off6_inb k) (256 + 4 * k.val) (by omega) (off6_eq k)
  sl_exec (disch := exact chk_at_lo _ ep0 hP)
  iapply (wp_scat d L) $$ H2; iintro H2
  sl_exec (disch := exact chk_at_hi _ el0 hM)
  iapply (wp_scat_to d L (hist P M ((256 + 4 * k.val) + 1)) ?_) $$ H2
  · exact two_at (F := F) P M (256 + 4 * k.val) hP hM _ _ ep0 el0 _ rfl _ _
  iintro H2
  have ep1 := ld_row (F := F) (thr d L) s0 P _ (k1_off7_inb k) (256 + 4 * k.val + 1) (by omega) (off7_eq k)
  have el1 := ld_row (F := F) (thr d L) s1 M _ (k1_off7_inb k) (256 + 4 * k.val + 1) (by omega) (off7_eq k)
  sl_exec (disch := exact chk_at_lo _ ep1 hP)
  iapply (wp_scat d L) $$ H2; iintro H2
  sl_exec (disch := exact chk_at_hi _ el1 hM)
  iapply (wp_scat_to d L (hist P M ((256 + 4 * k.val + 1) + 1)) ?_) $$ H2
  · exact two_at (F := F) P M (256 + 4 * k.val + 1) hP hM _ _ ep1 el1 _ rfl _ _
  iintro H2
  have ep2 := ld_row (F := F) (thr d L) s0 P _ (k1_off8_inb k) (256 + 4 * k.val + 2) (by omega) (off8_eq k)
  have el2 := ld_row (F := F) (thr d L) s1 M _ (k1_off8_inb k) (256 + 4 * k.val + 2) (by omega) (off8_eq k)
  sl_exec (disch := exact chk_at_lo _ ep2 hP)
  iapply (wp_scat d L) $$ H2; iintro H2
  sl_exec (disch := exact chk_at_hi _ el2 hM)
  iapply (wp_scat_to d L (hist P M ((256 + 4 * k.val + 2) + 1)) ?_) $$ H2
  · exact two_at (F := F) P M (256 + 4 * k.val + 2) hP hM _ _ ep2 el2 _ rfl _ _
  iintro H2
  have ep3 := ld_row (F := F) (thr d L) s0 P _ (k1_off9_inb k) (256 + 4 * k.val + 3) (by omega) (off9_eq k)
  have el3 := ld_row (F := F) (thr d L) s1 M _ (k1_off9_inb k) (256 + 4 * k.val + 3) (by omega) (off9_eq k)
  sl_exec (disch := exact chk_at_lo _ ep3 hP)
  iapply (wp_scat d L) $$ H2; iintro H2
  sl_exec (disch := exact chk_at_hi _ el3 hM)
  iapply (wp_scat_to d L (hist P M ((256 + 4 * k.val + 3) + 1)) ?_) $$ H2
  · exact two_at (F := F) P M (256 + 4 * k.val + 3) hP hM _ _ ep3 el3 _ rfl _ _
  iintro H2
  sl_step
  iapply Hk
  isplitl [H0]; · iexact H0
  isplitl [H1]; · iexact H1
  iexact H2

end Cert.Proof.Seg
-- ==== Proof.Tile.lean ====
module

public import proofs.«01_k».proof.Proof.Trip

/-!
  The whole task of a tile: its two rows of predictions and of labels are copied in, the histogram is zeroed, the two
  loops fill it, and its lanes are summed into one row of partial results, which is copied out.
-/

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The two rows of the image a tile works on. -/
abbrev rows2 (L : grid1.Coords) : Rect S64x4096 := Rect.unit (s := S64x4096) (k1_off1 L) S2x4096.size (k1_off1_inb L)
/-- The row of partial results it leaves. -/
abbrev row1 (L : grid1.Coords) : Rect S32x192 := Rect.unit (s := S32x192) (k1_off10 L) S1x192.size (k1_off10_inb L)
/-- Its rows of predictions. -/
abbrev pR (L : grid1.Coords) := pW.slice (rows2 L) (fun _ => rfl)
/-- Its rows of labels. -/
abbrev lR (L : grid1.Coords) := lW.slice (rows2 L) (fun _ => rfl)
/-- Its row of partial results. -/
abbrev oR (L : grid1.Coords) := (oW.slice (row1 L) (fun _ => rfl)).squeeze S192 squeezes_S1x192_S192

/-! ## Zeroing -/

/-- Offsets of sixteen cells of the histogram are in bounds. -/
theorem inb16 (n : ℕ) : ∀ k, (![n % 2033] : Fin 1 → ℕ) k + S16.size k ≤ S2048.size k := by
  intro k
  fin_cases k
  show n % 2033 + 16 ≤ 2048
  have := Nat.mod_lt n (show 2033 > 0 by decide)
  omega

/-- The first `n` stores of zeros, the last one first. -/
def zs : ℕ → List (View.Piece (Elt F) S2048 .f32)
  | 0 => []
  | n + 1 => ⟨Rect.unit (s := S2048) ![n * 16 % 2033] S16.size (inb16 (n * 16)), (k1_pay17 : FVec F S16 .f32)⟩ :: zs n

theorem zs_zero (n : ℕ) : ∀ p ∈ zs (F := F) n, ∀ x : p.1.shape.Idx, p.2 x = Scalar.ofBits .f32 0#32 := by
  induction n with
  | zero => intro p hp; exact absurd hp List.not_mem_nil
  | succ n ih =>
    intro p hp
    rcases List.mem_cons.mp hp with rfl | hp
    · intro x; rfl
    · exact ih p hp

theorem zs_cover (n : ℕ) (hn : n ≤ 128) (y : S2048.Idx) (hy : (y 0).val < 16 * n) : ∃ p ∈ zs (F := F) n, y ∈ p.1.set := by
  induction n with
  | zero => omega
  | succ n ih =>
    by_cases h : (y 0).val < 16 * n
    · obtain ⟨p, hp, h⟩ := ih (by omega) h
      exact ⟨p, List.mem_cons_of_mem _ hp, h⟩
    · refine ⟨_, List.mem_cons_self, ?_⟩
      have e : n * 16 % 2033 = n * 16 := Nat.mod_eq_of_lt (by omega)
      refine (LoadRect.mem_set _).mpr fun a => ⟨(y a).val - n * 16, ?_, ?_⟩
      · fin_cases a
        show (y 0).val - n * 16 < 16
        omega
      · fin_cases a
        show (y 0).val = n * 16 % 2033 + 1 * ((y 0).val - n * 16)
        omega

/-- The zeroed histogram. -/
theorem zs_all (P M : S2x4096.Idx → BitVec 32) (f : S2048.Idx → F .f32) :
    s2.view.writes (Elt F) f (zs 128) = hist P M 0 := by
  funext y
  refine View.read_writes_apply_of_pieces s2.view f (hist P M 0) (zs 128) (zs_zero 128) y (zs_cover 128 le_rfl y ?_)
  exact (y 0).isLt

/-! ## The sums over lanes -/

/-- Sixteen cells of the histogram from `n`. -/
def ldc (h : S2048.Idx → F .f32) (n : ℕ) : FVec F S16 .f32 :=
  View.readAt (Elt F) s2.view (Rect.unit (s := S2048) ![n % 2033] S16.size (inb16 n)).toLoadRect h

/-- The matches of sixteen classes, group `q`, over the first `t` lanes. -/
def hitV (h : S2048.Idx → F .f32) (q : ℕ) : ℕ → FVec F S16 .f32
  | 0 => k1_pay17
  | t + 1 => addf (hitV h q t) (sitofp .f32 (shrsi (fptosi 32 (ldc h (t * 64 + 16 * q))) (broadcast S16 13#32)))

/-- The predictions of sixteen classes. -/
def cntV (h : S2048.Idx → F .f32) (q : ℕ) : ℕ → FVec F S16 .f32
  | 0 => k1_pay17
  | t + 1 => addf (cntV h q t) (sitofp .f32 (andi (fptosi 32 (ldc h (t * 64 + 16 * q))) (broadcast S16 8191#32)))

/-- The labels of sixteen classes. -/
def labV (h : S2048.Idx → F .f32) (q : ℕ) : ℕ → FVec F S16 .f32
  | 0 => k1_pay17
  | t + 1 => addf (labV h q t) (ldc h (1024 + t * 64 + 16 * q))

/-- The row of partial results: matches, predictions and labels of the sixty-four classes. -/
def partRow (h : S2048.Idx → F .f32) : S192.Idx → F .f32 := fun y =>
  let q := (y 0).val % 64 / 16
  let x := ln ⟨(y 0).val % 16, Nat.mod_lt _ (by decide)⟩
  if (y 0).val < 64 then hitV h q 16 x else if (y 0).val < 128 then cntV h q 16 x else labV h q 16 x

theorem partRow_hit (h : S2048.Idx → F .f32) (q : ℕ) (hq : q < 4) (inb : ∀ k, (![16 * q] : Fin 1 → ℕ) k + S16.size k ≤ S192.size k) (x : S16.Idx) :
    hitV h q 16 x = partRow h ((Rect.unit (s := S192) ![16 * q] S16.size inb).emb x) := by
  obtain ⟨k, rfl⟩ := eq_ln x
  have e : (((Rect.unit (s := S192) ![16 * q] S16.size inb).emb (ln k)) 0).val = 16 * q + 1 * k.val := rfl
  have hk := k.isLt
  unfold partRow
  simp only [e]
  rw [if_pos (by omega), show (16 * q + 1 * k.val) % 64 / 16 = q by omega]
  congr 2
  apply Fin.ext
  show k.val = (16 * q + 1 * k.val) % 16
  omega

theorem partRow_cnt (h : S2048.Idx → F .f32) (q : ℕ) (hq : q < 4) (inb : ∀ k, (![64 + 16 * q] : Fin 1 → ℕ) k + S16.size k ≤ S192.size k) (x : S16.Idx) :
    cntV h q 16 x = partRow h ((Rect.unit (s := S192) ![64 + 16 * q] S16.size inb).emb x) := by
  obtain ⟨k, rfl⟩ := eq_ln x
  have e : (((Rect.unit (s := S192) ![64 + 16 * q] S16.size inb).emb (ln k)) 0).val = 64 + 16 * q + 1 * k.val := rfl
  have hk := k.isLt
  unfold partRow
  simp only [e]
  rw [if_neg (by omega), if_pos (by omega), show (64 + 16 * q + 1 * k.val) % 64 / 16 = q by omega]
  congr 2
  apply Fin.ext
  show k.val = (64 + 16 * q + 1 * k.val) % 16
  omega

theorem partRow_lab (h : S2048.Idx → F .f32) (q : ℕ) (hq : q < 4) (inb : ∀ k, (![128 + 16 * q] : Fin 1 → ℕ) k + S16.size k ≤ S192.size k) (x : S16.Idx) :
    labV h q 16 x = partRow h ((Rect.unit (s := S192) ![128 + 16 * q] S16.size inb).emb x) := by
  obtain ⟨k, rfl⟩ := eq_ln x
  have e : (((Rect.unit (s := S192) ![128 + 16 * q] S16.size inb).emb (ln k)) 0).val = 128 + 16 * q + 1 * k.val := rfl
  have hk := k.isLt
  unfold partRow
  simp only [e]
  rw [if_neg (by omega), if_neg (by omega), show (128 + 16 * q + 1 * k.val) % 64 / 16 = q by omega]
  congr 2
  apply Fin.ext
  show k.val = (128 + 16 * q + 1 * k.val) % 16
  omega

/-- Offsets of sixteen cells of the row are in bounds. -/
theorem inb192 (o : ℕ) (ho : o ≤ 176) : ∀ k, (![o] : Fin 1 → ℕ) k + S16.size k ≤ S192.size k := by
  intro k
  fin_cases k
  show o + 16 ≤ 192
  omega

/-- The three stores of group `q`, put before the earlier ones. -/
def grp (h : S2048.Idx → F .f32) (q : Fin 4) (Z : List (View.Piece (Elt F) S192 .f32)) : List (View.Piece (Elt F) S192 .f32) :=
  ⟨Rect.unit (s := S192) ![128 + 16 * q.val] S16.size (inb192 _ (by have := q.isLt; omega)), labV h q.val 16⟩
  :: ⟨Rect.unit (s := S192) ![64 + 16 * q.val] S16.size (inb192 _ (by have := q.isLt; omega)), cntV h q.val 16⟩
  :: ⟨Rect.unit (s := S192) ![16 * q.val] S16.size (inb192 _ (by have := q.isLt; omega)), hitV h q.val 16⟩ :: Z

/-- The twelve stores of the row. -/
def rowPieces (h : S2048.Idx → F .f32) : List (View.Piece (Elt F) S192 .f32) := grp h 3 (grp h 2 (grp h 1 (grp h 0 [])))

theorem grp_ok (h : S2048.Idx → F .f32) (q : Fin 4) (Z : List (View.Piece (Elt F) S192 .f32))
    (hZ : ∀ p ∈ Z, ∀ x : p.1.shape.Idx, p.2 x = partRow h (p.1.emb x)) :
    ∀ p ∈ grp h q Z, ∀ x : p.1.shape.Idx, p.2 x = partRow h (p.1.emb x) := by
  intro p hp
  rcases List.mem_cons.mp hp with rfl | hp
  · exact partRow_lab h q.val q.isLt (inb192 _ (by have := q.isLt; omega))
  rcases List.mem_cons.mp hp with rfl | hp
  · exact partRow_cnt h q.val q.isLt (inb192 _ (by have := q.isLt; omega))
  rcases List.mem_cons.mp hp with rfl | hp
  · exact partRow_hit h q.val q.isLt (inb192 _ (by have := q.isLt; omega))
  exact hZ p hp

theorem grp_old (h : S2048.Idx → F .f32) (q : Fin 4) (Z : List (View.Piece (Elt F) S192 .f32)) (y : S192.Idx)
    (hZ : ∃ p ∈ Z, y ∈ p.1.set) : ∃ p ∈ grp h q Z, y ∈ p.1.set := by
  obtain ⟨p, hp, hy⟩ := hZ
  exact ⟨p, List.mem_cons_of_mem _ (List.mem_cons_of_mem _ (List.mem_cons_of_mem _ hp)), hy⟩

/-- A position of the row in a block of sixteen. -/
theorem mem_block (o : ℕ) (inb : ∀ k, (![o] : Fin 1 → ℕ) k + S16.size k ≤ S192.size k) (y : S192.Idx)
    (h : o ≤ (y 0).val) (h' : (y 0).val < o + 16) : y ∈ (Rect.unit (s := S192) ![o] S16.size inb).set := by
  refine (LoadRect.mem_set _).mpr fun a => ⟨(y a).val - o, ?_, ?_⟩
  · fin_cases a
    show (y 0).val - o < 16
    omega
  · fin_cases a
    show (y 0).val = o + 1 * ((y 0).val - o)
    omega

theorem grp_here (h : S2048.Idx → F .f32) (q : Fin 4) (Z : List (View.Piece (Elt F) S192 .f32)) (y : S192.Idx)
    (hq : (y 0).val % 64 / 16 = q.val) : ∃ p ∈ grp h q Z, y ∈ p.1.set := by
  have hy : (y 0).val < 192 := (y 0).isLt
  by_cases h1 : (y 0).val < 64
  · exact ⟨_, List.mem_cons_of_mem _ (List.mem_cons_of_mem _ List.mem_cons_self), mem_block _ (inb192 _ (by have := q.isLt; omega)) y (by omega) (by omega)⟩
  by_cases h2 : (y 0).val < 128
  · exact ⟨_, List.mem_cons_of_mem _ List.mem_cons_self, mem_block _ (inb192 _ (by have := q.isLt; omega)) y (by omega) (by omega)⟩
  · exact ⟨_, List.mem_cons_self, mem_block _ (inb192 _ (by have := q.isLt; omega)) y (by omega) (by omega)⟩

/-- What the twelve stores leave. -/
theorem rowPieces_all (h : S2048.Idx → F .f32) (f : S192.Idx → F .f32) :
    s3.view.writes (Elt F) f (rowPieces h) = partRow h := by
  funext y
  unfold rowPieces
  show View.read (Elt F) s3.view (s3.view.writes (Elt F) f (grp h 3 (grp h 2 (grp h 1 (grp h 0 []))))) y = partRow h y
  refine View.read_writes_apply_of_pieces (Val := Elt F) s3.view f (partRow h) _ ?_ y ?_
  · exact grp_ok h 3 _ (grp_ok h 2 _ (grp_ok h 1 _ (grp_ok h 0 [] (fun p hp => absurd hp List.not_mem_nil))))
  · have hq : (y 0).val % 64 / 16 = 0 ∨ (y 0).val % 64 / 16 = 1 ∨ (y 0).val % 64 / 16 = 2 ∨ (y 0).val % 64 / 16 = 3 := by omega
    rcases hq with hq | hq | hq | hq
    · exact grp_old h 3 _ y (grp_old h 2 _ y (grp_old h 1 _ y (grp_here h 0 _ y hq)))
    · exact grp_old h 3 _ y (grp_old h 2 _ y (grp_here h 1 _ y hq))
    · exact grp_old h 3 _ y (grp_here h 2 _ y hq)
    · exact grp_here h 3 _ y hq

/-! ## The task -/

/-- What the loops hold: the copied rows and the histogram at a step count. -/
def inv (d : Dev nD) (L : grid1.Coords) (P M : S2x4096.Idx → BitVec 32) (b : ℕ) (n : ℕ) (_ : Unit) : sProp 𝕄 :=
  iprop((s0.view.loc (thr d L) ↦{fullShare} P) ∗ (s1.view.loc (thr d L) ↦{fullShare} M)
    ∗ (s2.view.loc (thr d L) ↦{fullShare} hist P M (b + 4 * n)))

set_option maxRecDepth 8192 in
theorem tile_run (d : Dev nD) (L : grid1.Coords) (O : CellTallies nD τ sig (HIx 1)) (W : Waits sig (HIx 1))
    (fp : Buf (Elt F) ((pR L).view.loc (thr d L))) (fl : Buf (Elt F) ((lR L).view.loc (thr d L))) (fo : Buf (Elt F) ((oR L).view.loc (thr d L)))
    (hP : ∀ i, ((pR L).view.read (Elt F) fp i).toNat < 64) (hM : ∀ i, ((lR L).view.read (Elt F) fl i).toNat < 64)
    (f0 : Buf (Elt F) (s0.view.loc (thr d L))) (f1 : Buf (Elt F) (s1.view.loc (thr d L)))
    (f2 : Buf (Elt F) (s2.view.loc (thr d L))) (f3 : Buf (Elt F) (s3.view.loc (thr d L))) :
    iprop(Transfers.MayWaits (thr d L) (none : HIx 1) O
        ∗ ((pR L).view.loc (thr d L) ↦[(pR L).view.set]{fullShare} fp)
        ∗ ((lR L).view.loc (thr d L) ↦[(lR L).view.set]{fullShare} fl)
        ∗ ((oR L).view.loc (thr d L) ↦[(oR L).view.set]{fullShare} fo)
        ∗ (s0.view.loc (thr d L) ↦{fullShare} f0)
        ∗ (s1.view.loc (thr d L) ↦{fullShare} f1)
        ∗ (s2.view.loc (thr d L) ↦{fullShare} f2)
        ∗ (s3.view.loc (thr d L) ↦{fullShare} f3)
        ∗ semVal (thr d L, SemLoc.dma cc1_scoped0.sem) 0 ∗ semVal (thr d L, SemLoc.dma cc1_scoped1.sem) 0 ∗ semVal (thr d L, SemLoc.dma cc1_scoped2.sem) 0
        ∗ owes (thr d L) O W)
      ⊢ wp frame (wpE (defs₀ (F := F)) 𝒱₀ (thr d L) none) Set.univ
          (cc1__sc_hist L pW (Memref.isWhole_whole _) lW (Memref.isWhole_whole _) oW (Memref.isWhole_whole _)
            s0 (Memref.isWhole_whole _) s1 (Memref.isWhole_whole _) s2 (Memref.isWhole_whole _) s3 (Memref.isWhole_whole _) cc1_scoped0 cc1_scoped1 cc1_scoped2)
          ((fun _ => iprop(((pR L).view.loc (thr d L) ↦[(pR L).view.set]{fullShare} fp)
            ∗ ((lR L).view.loc (thr d L) ↦[(lR L).view.set]{fullShare} fl)
            ∗ ((oR L).view.loc (thr d L) ↦[(oR L).view.set]{fullShare}
                (oR L).view.write (Elt F) fo (partRow (hist ((pR L).view.read (Elt F) fp) ((lR L).view.read (Elt F) fl) 512)) Finset.univ)
            ∗ (∃ f, (s0.view.loc (thr d L) ↦{fullShare} f)) ∗ (∃ f, (s1.view.loc (thr d L) ↦{fullShare} f))
            ∗ (∃ f, (s2.view.loc (thr d L) ↦{fullShare} f)) ∗ (∃ f, (s3.view.loc (thr d L) ↦{fullShare} f))
            ∗ semVal (thr d L, SemLoc.dma cc1_scoped0.sem) 0 ∗ semVal (thr d L, SemLoc.dma cc1_scoped1.sem) 0 ∗ semVal (thr d L, SemLoc.dma cc1_scoped2.sem) 0
            ∗ ∃ W', ⌜∀ p ∈ W', p ∈ W ∨ p.2 = none⌝ ∗ owes (thr d L) O W')) : PUnit → sProp 𝕄) := by
  rw [cc1__sc_hist_eq_skeleton]
  unfold cc1__sc_hist_skel
  iintro ⟨Hmw, Hp, Hl, Ho, H0, H1, H2, H3, Hm0, Hm1, Hm2, HO⟩
  sl_exec
  have hz : tile_run.sl.H2_128 = zs (F := F) 128 := rfl
  rw [hz]
  ihave H2 := (Entails.of_eq (congrArg (fun f : S2048.Idx → F .f32 => (s2.view.loc (thr d L) ↦{fullShare} f : sProp 𝕄))
    (zs_all ((pR L).view.read (Elt F) fp) ((lR L).view.read (Elt F) fl) _))) $$ H2
  have hd : tile_run.sl.dma0 d L fp = (pR L).view.read (Elt F) fp := rfl
  rw [hd]
  ihave H0 := (Entails.of_eq (congrArg (fun f : S2x4096.Idx → BitVec 32 => (s0.view.loc (thr d L) ↦{fullShare} f : sProp 𝕄))
    (View.write_whole_univ (Val := Elt F) cc1_scratch0 f0 ((pR L).view.read (Elt F) fp)))) $$ H0
  have hd1 : tile_run.sl.dma0_1 d L fl = (lR L).view.read (Elt F) fl := rfl
  rw [hd1]
  ihave H1 := (Entails.of_eq (congrArg (fun f : S2x4096.Idx → BitVec 32 => (s1.view.loc (thr d L) ↦{fullShare} f : sProp 𝕄))
    (View.write_whole_univ (Val := Elt F) cc1_scratch1 f1 ((lR L).view.read (Elt F) fl)))) $$ H1
  sl_for (inv d L ((pR L).view.read (Elt F) fp) ((lR L).view.read (Elt F) fl) 0) $$ [H0 H1 H2]
  case region =>
    intro k _
    unfold inv
    iintro ⟨H0, H1, H2⟩
    rw [Nat.zero_add, Nat.zero_add]
    iapply (trip1 d L k _ _ hP hM _) $$ [H0 H1 H2]
    isplitl [H0]; · iexact H0
    isplitl [H1]; · iexact H1
    isplitl [H2]; · iexact H2
    iintro H
    rw [Nat.mul_add]
    iexact H
  · unfold inv
    isplitl [H0]; · iexact H0
    isplitl [H1]; · iexact H1
    iexact H2
  iintro %_ HI
  sl_exec
  sl_for (inv d L ((pR L).view.read (Elt F) fp) ((lR L).view.read (Elt F) fl) 256) $$ [HI]
  case region =>
    intro k _
    unfold inv
    iintro ⟨H0, H1, H2⟩
    iapply (trip2 d L k _ _ hP hM _) $$ [H0 H1 H2]
    isplitl [H0]; · iexact H0
    isplitl [H1]; · iexact H1
    isplitl [H2]; · iexact H2
    iintro H
    rw [Nat.mul_add, ← Nat.add_assoc]
    iexact H
  · unfold inv
    iexact HI
  iintro %_ HI
  unfold inv
  icases HI with ⟨H0, H1, H2⟩
  sl_exec
  have ht : 256 + 4 * Scf.trips k1_t2_loop.lb k1_t2_loop.ub k1_t2_loop.st = 512 := rfl
  have hr : tile_run.sl.H3_12 d L fp fl
      = rowPieces (hist (F := F) ((pR L).view.read (Elt F) fp) ((lR L).view.read (Elt F) fl) 512) := rfl
  have hw : tile_run.sl.dma152 d L fp fl f3
      = partRow (hist (F := F) ((pR L).view.read (Elt F) fp) ((lR L).view.read (Elt F) fl) 512) := by
    refine Eq.trans ?_ (rowPieces_all _ f3)
    rw [← hr]
    rfl
  rw [hw, ← View.write_univ_eq_writes_whole (L := [])]
  sl_step
  isplitl [Hp]; · iexact Hp
  isplitl [Hl]; · iexact Hl
  isplitl [Ho]; · iexact Ho
  isplitl [H0]; · iexists _; iexact H0
  isplitl [H1]; · iexists _; iexact H1
  isplitl [H2]; · iexists _; iexact H2
  isplitl [H3]; · iexists _; iexact H3
  isplitl [Hm0]; · iexact Hm0
  isplitl [Hm1]; · iexact Hm1
  isplitl [Hm2]; · iexact Hm2
  iexists _; isplitr; swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Cert.Proof.Seg
-- ==== Proof.Rows.lean ====
module

public import proofs.«01_k».proof.Proof.Tile

/-!
  How the thirty-two tiles share the image: tile `w` takes rows `2 w` and `2 w + 1` of the predictions and of the labels
  and leaves row `w` of the partial results.
-/

@[expose] public section

noncomputable section

namespace Cert.Proof.Seg

open Cert.KernelIdeal Cert.KernelIdeal.Gen
open Idealize.ShloMosaic

variable {F : FTy → Type} [FloatOps F]

/-- The number of a tile. -/
def wid (L : grid1.Coords) : ℕ := (L 1).val * 2 + (L 0).val

theorem wid_lt (L : grid1.Coords) : wid L < 32 := by
  have h0 : (L 0).val < 2 := (L 0).isLt
  have h1 : (L 1).val < 16 := (L 1).isLt
  unfold wid
  omega

/-- Where a tile's two rows of the image start. -/
theorem off1_eq (L : grid1.Coords) : k1_off1 L = ![2 * wid L, 0] := by
  have h0 : (L 0).val < 2 := (L 0).isLt
  have h1 : (L 1).val < 16 := (L 1).isLt
  have e : ∀ a < 2, ∀ b < 16, k1_off1 L = k1_off1 L → (Scalar.muli (Scalar.addi (Scalar.muli (BitVec.ofNat 32 b) 2#32) (BitVec.ofNat 32 a)) 2#32).toNat = 2 * (b * 2 + a) := by
    intro a ha b hb _
    interval_cases a <;> interval_cases b <;> rfl
  unfold k1_off1
  funext k
  fin_cases k
  · exact e (L 0).val h0 (L 1).val h1 rfl
  · rfl

/-- Where a tile's row of partial results starts. -/
theorem off10_eq (L : grid1.Coords) : k1_off10 L = ![wid L, 0] := by
  have h0 : (L 0).val < 2 := (L 0).isLt
  have h1 : (L 1).val < 16 := (L 1).isLt
  have e : ∀ a < 2, ∀ b < 16, (Scalar.addi (Scalar.muli (BitVec.ofNat 32 b) 2#32) (BitVec.ofNat 32 a)).toNat = b * 2 + a := by
    intro a ha b hb
    interval_cases a <;> interval_cases b <;> rfl
  unfold k1_off10
  funext k
  fin_cases k
  · exact e (L 0).val h0 (L 1).val h1
  · rfl

/-- The positions of the image in the two rows of tile `w`. -/
def imgSet (w : ℕ) : Finset S64x4096.Idx := Finset.univ.filter fun i => (i 0).val / 2 = w
/-- The positions of the partial results in row `w`. -/
def outSet (w : ℕ) : Finset S32x192.Idx := Finset.univ.filter fun i => (i 0).val = w

theorem rows2_set (L : grid1.Coords) : (rows2 L).set = imgSet (wid L) := by
  ext i
  have h1 : (i 1).val < 4096 := (i 1).isLt
  rw [Rect.mem_set_unit, off1_eq]
  unfold imgSet
  rw [Finset.mem_filter]
  constructor
  · intro h
    have h : 2 * wid L ≤ (i 0).val ∧ (i 0).val < 2 * wid L + 2 := h 0
    exact ⟨Finset.mem_univ _, by omega⟩
  · rintro ⟨-, h⟩ a
    match a with
    | ⟨0, _⟩ => show 2 * wid L ≤ (i 0).val ∧ (i 0).val < 2 * wid L + 2; omega
    | ⟨1, _⟩ => show 0 ≤ (i 1).val ∧ (i 1).val < 0 + 4096; omega

theorem set_pR (L : grid1.Coords) : (pR L).view.set = imgSet (wid L) := by
  show ((View.whole main_v1_scv).slice (rows2 L)).set = _
  rw [View.set_slice_whole]
  exact rows2_set L

theorem set_lR (L : grid1.Coords) : (lR L).view.set = imgSet (wid L) := by
  show ((View.whole main_arg1_scv).slice (rows2 L)).set = _
  rw [View.set_slice_whole]
  exact rows2_set L

theorem set_oR (L : grid1.Coords) : (oR L).view.set = outSet (wid L) := by
  show (((View.whole main_v2_scv).slice (row1 L)).reshape S192 squeezes_S1x192_S192.numel_eq).set = _
  rw [View.set_reshape, View.set_slice_whole]
  ext i
  have h1 : (i 1).val < 192 := (i 1).isLt
  show i ∈ (row1 L).set ↔ _
  rw [Rect.mem_set_unit, off10_eq]
  unfold outSet
  rw [Finset.mem_filter]
  constructor
  · intro h
    have h : wid L ≤ (i 0).val ∧ (i 0).val < wid L + 1 := h 0
    exact ⟨Finset.mem_univ _, by omega⟩
  · rintro ⟨-, h⟩ a
    match a with
    | ⟨0, _⟩ => show wid L ≤ (i 0).val ∧ (i 0).val < wid L + 1; omega
    | ⟨1, _⟩ => show 0 ≤ (i 1).val ∧ (i 1).val < 0 + 192; omega

/-- A position of the image, from a row and a column. -/
def img (r c : ℕ) : S64x4096.Idx := fun
  | ⟨0, _⟩ => (⟨r % 64, Nat.mod_lt _ (by decide)⟩ : Fin 64)
  | ⟨1, _⟩ => (⟨c % 4096, Nat.mod_lt _ (by decide)⟩ : Fin 4096)

/-- The two rows of an image tile `w` sees. -/
def tileRows (A : S64x4096.Idx → BitVec 32) (w : ℕ) : S2x4096.Idx → BitVec 32 := fun j => A (img (2 * w + (j 0).val) (j 1).val)

theorem emb_rows (L : grid1.Coords) (j : S2x4096.Idx) : (rows2 L).emb j = img (2 * wid L + (j 0).val) (j 1).val := by
  have hw := wid_lt L
  have h0 : (j 0).val < 2 := (j 0).isLt
  have h1 : (j 1).val < 4096 := (j 1).isLt
  funext a
  apply Fin.ext
  match a with
  | ⟨0, _⟩ =>
    show k1_off1 L 0 + 1 * (j 0).val = (2 * wid L + (j 0).val) % 64
    rw [off1_eq]
    show 2 * wid L + 1 * (j 0).val = _
    omega
  | ⟨1, _⟩ =>
    show k1_off1 L 1 + 1 * (j 1).val = (j 1).val % 4096
    rw [off1_eq]
    show 0 + 1 * (j 1).val = _
    omega

theorem read_pR (L : grid1.Coords) (A : S64x4096.Idx → BitVec 32) : (pR L).view.read (Elt F) A = tileRows A (wid L) := by
  funext j
  exact congrArg A (emb_rows L j)

theorem read_lR (L : grid1.Coords) (A : S64x4096.Idx → BitVec 32) : (lR L).view.read (Elt F) A = tileRows A (wid L) := by
  funext j
  exact congrArg A (emb_rows L j)

/-- A position of a row of partial results. -/
def cell192 (c : ℕ) : S192.Idx := fun | ⟨0, _⟩ => (⟨c % 192, Nat.mod_lt _ (by decide)⟩ : Fin 192)

/-- The partial results of all tiles over an image of predictions and one of labels. -/
def partOf (A B : S64x4096.Idx → BitVec 32) : S32x192.Idx → F .f32 := fun i =>
  partRow (hist (tileRows A (i 0).val) (tileRows B (i 0).val) 512) (cell192 (i 1).val)

theorem write_oR (L : grid1.Coords) (A B : S64x4096.Idx → BitVec 32) (fo : S32x192.Idx → F .f32) (i : S32x192.Idx) (hi : i ∈ (oR L).view.set) :
    (oR L).view.write (Elt F) fo (partRow (hist (tileRows A (wid L)) (tileRows B (wid L)) 512)) Finset.univ i = partOf A B i := by
  obtain ⟨y, -, rfl⟩ := Finset.mem_map.mp hi
  have h1 := View.write_emb_of_mem (Val := Elt F) (v := (oR L).view) fo (partRow (hist (tileRows A (wid L)) (tileRows B (wid L)) 512)) (Finset.mem_univ y)
  refine h1.trans ?_
  have h2 := congrFun (Memref.read_squeeze_slice (Val := Elt F) oW (row1 L) (fun _ => rfl) squeezes_S1x192_S192 (show S1x192.ShapeCasts S192 by decide) (partOf A B)) y
  refine Eq.trans ?_ h2.symm
  refine Eq.trans ?_ (shapeCast_dropUnit_apply ![192] _ _ y).symm
  have hy : (y 0).val < 192 := (y 0).isLt
  have e0 : ((row1 L).emb (Fin.cons ⟨0, Nat.one_pos⟩ y) 0).val = wid L := by
    show k1_off10 L 0 + 1 * 0 = _
    rw [off10_eq]; rfl
  have e1 : ((row1 L).emb (Fin.cons ⟨0, Nat.one_pos⟩ y) 1).val = (y 0).val := by
    show k1_off10 L 1 + 1 * (y 0).val = _
    rw [off10_eq]
    show 0 + 1 * (y 0).val = _
    omega
  show _ = partOf A B ((row1 L).emb (Fin.cons ⟨0, Nat.one_pos⟩ y))
  unfold partOf
  rw [e0, e1]
  refine congrArg (partRow _) (funext fun a => ?_)
  match a with
  | ⟨0, _⟩ => exact Fin.ext (show (y 0).val = (y 0).val % 192 by omega)

end Cert.Proof.Seg
-- ==== Proof.Region.lean ====
module

public import proofs.«01_k».proof.Proof.Setup

/-!
  The TensorCore kernel as a region of the program: from the class-major logits it fills the whole image of predictions,
  eight rows a grid point, while the core keeps what it owes the SparseCores.
-/

@[expose] public section

noncomputable section

namespace Cert.Proof.Seg

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)
open Cert.Proof.Argmax (amaxAt argBlk argBlk_apply at3 bodyRun bodyRun_read)

variable {F : FTy → Type} [FloatOps F]

local notation "𝕄" => MT nD τ sig (HIx 1) (Elt F) ℕ UU ℕ

/-- A position of the class-major logits, from a class and a pixel. -/
def at64 (c : ℕ) (j : S64x4096.Idx) : S50x64x4096.Idx :=
  Fin.cons (α := fun k => Fin (S50x64x4096.size k)) (⟨c % 50, Nat.mod_lt _ (by decide)⟩ : Fin 50) j

/-- The predictions over the class-major logits: at each pixel the first class of the largest logit. -/
def predOf (X : S50x64x4096.Idx → F .f32) : S64x4096.Idx → BitVec 32 := fun j => (amaxAt (fun c => X (at64 c j)) 49).2

variable (X : S50x64x4096.Idx → F .f32) (Y0 : S64x4096.Idx → BitVec 32) (O : CellTallies nD τ sig (HIx 1))

/-- The block of logits the body finds at a point. -/
abbrev stg (c : Dev nD) (t : Fin cfg0.N) : S50x8x4096.Idx → F .f32 := ((cfg0.win 0).blk t).view.read (Elt F) X

/-- The region's proof data: the logits' blocks left as found, each block of predictions at the scan's indices. -/
def dat (c : Dev nD) : Dat τ (Elt F) (HIx 1) ℕ UU ℕ cfg0 c where
  A w := match w with
    | ⟨0, _⟩ => X
    | ⟨1, _⟩ => Y0
  after w t := match w with
    | ⟨0, _⟩ => stg X c t
    | ⟨1, _⟩ => argBlk (stg X c t)
  Φ _ := BI.emp
  q _ := fullShare
  owed _ := O
  recorded _ := {p | (K (F := F)).lev (T c, p.1) p.2 ≤ 0}

/-- The one configuration has no table to choose. -/
abbrev adm : (p : Fin 1) → (pcfgs (F := F) p).Adm := fun p => (cfgs p).toPCfg_adm

/-- The family of proof data of the one pipeline. -/
def pdats : (p : Fin 1) → (c : Dev nD) → Dat τ (Elt F) (HIx 1) ℕ UU ℕ (Pipeline.pin (pcfgs (F := F)) adm p) c
  | ⟨0, _⟩ => fun c => dat X Y0 O c

theorem before_in (c : Dev nD) (t : Fin cfg0.N) (d : (cfg0.win 0).block.Idx → Elt F (cfg0.win 0).elt) :
    (dat X Y0 O c).before 0 t d = stg X c t :=
  (dat X Y0 O c).before_fetched 0 t (fetch0_0 t) d

/-- The body's obligation at every point. -/
theorem body_obligation (c : Dev nD) : BodyObligation (dat X Y0 O c) (defs₀ (F := F)) 𝒱₀ (none : HIx 1) Set.univ := fun t => by
  rw [bigSep_W0, bigSep_W0]
  rw [show (dat X Y0 O c).Φ t.castSucc = BI.emp from rfl, show (dat X Y0 O c).Φ t.succ = BI.emp from rfl,
    show (dat X Y0 O c).owesAt none t.succ = (dat X Y0 O c).owesAt none t.castSucc from rfl]
  show _ ⊢ wp frame _ _ (bodyAt0 t) _
  unfold owns
  iintro ⟨HΦ, Howes, ⟨%d0, %f0, %hf0, H0⟩, ⟨%d1, %f1, -, H1⟩⟩
  rw [before_in] at hf0
  have e0 : ((cfg0.win 0).stage (cfg0.slots t 0)).view.set = Finset.univ := (hstage0_0 ((cfg0.slots t 0).cast nbuf0_0)).set_eq_univ
  have e1 : ((cfg0.win 1).stage (cfg0.slots t 1)).view.set = Finset.univ := (hstage0_1 ((cfg0.slots t 1).cast nbuf0_1)).set_eq_univ
  have hW := bodyRun_read (Ix := HIx 1) (U := UU) c (grid0.coords t) (win0_0.stage (cfg0.slots t 0)) (hstage0_0 ((cfg0.slots t 0).cast nbuf0_0))
    (win0_1.stage (cfg0.slots t 1)) (hstage0_1 ((cfg0.slots t 1).cast nbuf0_1)) f0
  iapply ((bodyRun (Ix := HIx 1) (U := UU) c (grid0.coords t) (win0_0.stage (cfg0.slots t 0)) (hstage0_0 ((cfg0.slots t 0).cast nbuf0_0))
    (win0_1.stage (cfg0.slots t 1)) (hstage0_1 ((cfg0.slots t 1).cast nbuf0_1)) f0).2 f1 Set.univ _)
  isplitl [H0]
  · iapply (Entails.of_eq (congrArg (fun s => (((cfg0.win 0).stage (cfg0.slots t 0)).view.loc (c : Thread nD τ) ↦[s]{fullShare} f0 : sProp 𝕄)) e0)) $$ H0
  isplitl [H1]
  · iapply (Entails.of_eq (congrArg (fun s => (((cfg0.win 1).stage (cfg0.slots t 1)).view.loc (c : Thread nD τ) ↦[s]{fullShare} f1 : sProp 𝕄)) e1)) $$ H1
  iintro ⟨H0, H1⟩
  isplitl [HΦ]; · iexact HΦ
  isplitl [Howes]; · iexact Howes
  isplitl [H0]
  · iexists f0; isplitr
    · ipureintro; exact hf0
    · iapply (Entails.of_eq (congrArg (fun s => (((cfg0.win 0).stage (cfg0.slots t 0)).view.loc (c : Thread nD τ) ↦[s]{fullShare} f0 : sProp 𝕄)) e0.symm)) $$ H0
  · iexists _; isplitr; swap
    · iapply (Entails.of_eq (congrArg (fun s => (((cfg0.win 1).stage (cfg0.slots t 1)).view.loc (c : Thread nD τ) ↦[s]{fullShare} _ : sProp 𝕄)) e1.symm)) $$ H1
    · ipureintro
      refine hW.trans ?_
      exact congrArg argBlk hf0

/-- Where the two windows' blocks lie: eight rows a point, every class, every column. -/
theorem idx_eq : ∀ t : Fin cfg0.N, win0_0.index t 0 = 0 ∧ win0_0.index t 1 = t.val ∧ win0_0.index t 2 = 0
    ∧ win0_1.index t 0 = t.val ∧ win0_1.index t 1 = 0 := by decide +kernel

/-- The region's final predictions. -/
theorem arr_final (c : Dev nD) : (dat X Y0 O c).arrAt 1 cfg0.N = predOf X := by
  refine (dat X Y0 O c).arrAt_eq_of_cover 1 (predOf X) ?_ ?_
  · intro t _
    funext y
    show argBlk (stg X c t) y = predOf X (((cfg0.win 1).blk t).view.emb y)
    rw [argBlk_apply]
    unfold predOf
    refine congrArg (fun g => (amaxAt g 49).2) (funext fun k => ?_)
    show X (((cfg0.win 0).blk t).view.emb (at3 k y)) = _
    refine congrArg X (funext fun a => Fin.ext ?_)
    obtain ⟨i0, i1, i2, i3, i4⟩ := idx_eq t
    have h0 := Window.rect_emb_val win0_0 t (at3 k y)
    have h1 := Window.rect_emb_val win0_1 t y
    match a with
    | ⟨0, _⟩ => exact (h0 0).trans (by rw [i0, Nat.zero_mul, Nat.zero_add]; rfl)
    | ⟨1, _⟩ => exact ((h0 1).trans (by rw [i1, ← i3]; rfl)).trans (h1 0).symm
    | ⟨2, _⟩ => exact ((h0 2).trans (by rw [i2, ← i4]; rfl)).trans (h1 1).symm
  · intro i
    have hi0 : (i 0 : ℕ) < 64 := (i 0).isLt
    have hi1 : (i 1 : ℕ) < 4096 := (i 1).isLt
    have hN : cfg0.N = 8 := N_0
    let t : Fin cfg0.N := ⟨(i 0 : ℕ) / 8, by omega⟩
    refine ⟨t, flush0_1 t, ?_⟩
    let y : S8x4096.Idx := fun | ⟨0, _⟩ => (⟨(i 0 : ℕ) % 8, Nat.mod_lt _ (by decide)⟩ : Fin 8) | ⟨1, _⟩ => (⟨i 1, hi1⟩ : Fin 4096)
    have he : ((cfg0.win 1).blk t).view.emb y = i := by
      obtain ⟨-, -, -, i3, i4⟩ := idx_eq t
      have h1 := Window.rect_emb_val win0_1 t y
      refine funext fun a => Fin.ext ?_
      match a with
      | ⟨0, _⟩ => exact (h1 0).trans (by rw [i3]; show (i 0 : ℕ) / 8 * 8 + (i 0 : ℕ) % 8 = (i 0 : ℕ); omega)
      | ⟨1, _⟩ => exact (h1 1).trans (by rw [i4]; show 0 * 4096 + (i 1 : ℕ) = (i 1 : ℕ); omega)
    have := ((cfg0.win 1).blk t).view.emb_mem_set y
    rwa [he] at this

/-! ## The region over the thread's state -/

/-- The class-major logits' array and the predictions' array, whole. -/
abbrev xLoc (c : Dev nD) : Loc nD τ sig := (c : Thread nD τ).loc main_v0
abbrev yLoc (c : Dev nD) : Loc nD τ sig := (c : Thread nD τ).loc main_v1

/-- The two windows' arrays at a point, whole. -/
theorem arrays_at (c : Dev nD) (n : ℕ) {Y : S64x4096.Idx → BitVec 32} (hY : (dat X Y0 O c).arrAt 1 n = Y) :
    (Dat.arrays (dat X Y0 O c) (Dat.arrAt (dat X Y0 O c) · n) : sProp 𝕄) = iprop((xLoc c ↦{fullShare} X) ∗ (yLoc c ↦{fullShare} Y)) := by
  unfold Dat.arrays
  rw [bigSep_W0]
  dsimp only
  rw [hY, (dat X Y0 O c).arrAt_in 0 rfl n, (dat X Y0 O c).share_full (fun _ => rfl), (dat X Y0 O c).share_full (fun _ => rfl),
    (arr_whole0 0).set_eq_univ, (arr_whole0 1).set_eq_univ]
  rfl

set_option backward.isDefEq.respectTransparency.types false in
/-- The region: it takes the two arrays and what the core owes, and gives them back with the predictions written. -/
def reg (hO : ∀ g, O g none = 0) :
    Pipeline.RegionSeg (pcfgs (F := F)) adm (pdats X Y0 O) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation X Y0 O c).loose
  hwaits c := Pipeline.cellsWaits_intro _ _ _ _ _ fun w s t => (K (F := F)).mayWait_none _ hO
  pre c := iprop((xLoc c ↦{fullShare} X) ∗ (yLoc c ↦{fullShare} Y0) ∗ ∃ W, ⌜(K (F := F)).WBelow (T c) W 0⌝ ∗ owes (T c) O W)
  post c := iprop((xLoc c ↦{fullShare} X) ∗ (yLoc c ↦{fullShare} predOf X) ∗ ∃ W, ⌜(K (F := F)).WBelow (T c) W 0⌝ ∗ owes (T c) O W)
  X _ := BI.emp
  Y _ := BI.emp
  Z _ := BI.emp
  hentry c := by
    rw [Pipeline.ownSems0_none]
    rw [show Dat.arrays (pdats X Y0 O 0 c) (Dat.arrAt (pdats X Y0 O 0 c) · 0)
      = iprop((xLoc c ↦{fullShare} X) ∗ (yLoc c ↦{fullShare} Y0)) from arrays_at X Y0 O c 0 rfl]
    iintro ⟨⟨HX, HY, HO⟩, -, -⟩
    imodintro
    isplitl [HX HY]; · isplitl [HX] <;> iassumption
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats X Y0 O 0 c).Φ 0 = BI.emp from rfl]
    iintro -; iempintro
  hout c := by
    rw [Pipeline.ownSems0_none]
    iintro -
    isplitr; · iempintro
    isplitr; · iempintro
    iapply (Entails.of_eq (scopedRest0_eq (Ix := HIx 1) (Val := Elt F) (Name := ℕ) (U := UU) (Lvl := ℕ) c).symm)
    iempintro
  hexit c := by
    rw [show Dat.arrays (pdats X Y0 O 0 c) (Dat.arrAt (pdats X Y0 O 0 c) · cfg0.N)
      = iprop((xLoc c ↦{fullShare} X) ∗ (yLoc c ↦{fullShare} predOf X)) from arrays_at X Y0 O c cfg0.N (arr_final X Y0 O c)]
    iintro ⟨⟨HX, HY⟩, HO, -, -⟩
    imodintro
    isplitl [HX]; · iexact HX
    isplitl [HY]; · iexact HY
    unfold Pipeline.Dat.owesAt Pipeline.owesWithin
    icases HO with ⟨%W, %hW, HO⟩; iexists W; isplitr; swap; · iexact HO
    ipureintro
    intro p hp
    rcases hW hp with h | h
    · exact h
    · obtain ⟨w, s, rfl⟩ := h
      exact le_of_eq ((K (F := F)).lev_none _)

end Cert.Proof.Seg
-- ==== Proof.Task.lean ====
module

public import proofs.«01_k».proof.Proof.Rows
public import proofs.«01_k».proof.Proof.Region

/-!
  The SparseCore call: what each tile is handed, the tile's task over its own storage, and the split of the three arrays
  over the tiles.
-/

@[expose] public section

noncomputable section

namespace Cert.Proof.Seg

open Cert.KernelIdeal Cert.KernelIdeal.Gen
open Idealize.ShloMosaic
open Idealize.ShloMosaic.SparseCore (S V T)
open Idealize.ShloMosaic.SparseCore.Cfg (HIx Pay ownCells mem_ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Argmax (amaxAt amaxAt_le)

variable {F : FTy → Type} [FloatOps F]

local notation "𝕄" => MT nD τ sig (HIx 1) (Elt F) ℕ UU ℕ

/-- The labels' array and the partial results' array. -/
abbrev lLoc (d : Dev nD) : Loc nD τ sig := (SparseCore.T d).loc main_arg1
abbrev oLoc (d : Dev nD) : Loc nD τ sig := (SparseCore.T d).loc main_v2

/-- A tile's coordinates. -/
def crd (c : Fin (grid1.bound 0)) (s : Fin (grid1.bound 1)) : grid1.Coords :=
  fun | 0 => c | 1 => s | ⟨_ + 2, h⟩ => absurd h (Nat.not_lt.2 (Nat.le_add_left _ _))

/-- The tile of a SparseCore's number and a subcore's. -/
def tl (c : Fin ((K (F := F)).nCore 0)) (i : Fin ((K (F := F)).nSub 0)) : grid1.Coords := crd c i

variable (A B : S64x4096.Idx → BitVec 32)

/-- What a tile holds: its rows of predictions and labels, its row of partial results. -/
def share (d : Dev nD) (w : ℕ) (R : S32x192.Idx → F .f32) : sProp 𝕄 :=
  iprop((yLoc d ↦[imgSet w]{fullShare} A) ∗ (lLoc d ↦[imgSet w]{fullShare} B) ∗ (oLoc d ↦[outSet w]{fullShare} R))

/-! ## A tile's own storage -/

section Tile
variable (d : Dev nD) (L : grid1.Coords)

/-- The three copies' semaphores. -/
abbrev g0 : GSem nD τ sig := (thr d L, SemLoc.dma cc1_scoped0.sem)
abbrev g1 : GSem nD τ sig := (thr d L, SemLoc.dma cc1_scoped1.sem)
abbrev g2 : GSem nD τ sig := (thr d L, SemLoc.dma cc1_scoped2.sem)

theorem sems_tile :
    (ownSems0 (thr d L) : sProp 𝕄)
      = iprop(semVal (g0 d L) 0 ∗ semVal (g1 d L) 0 ∗ semVal (g2 d L) 0
          ∗ bigSep ((((ownCells (thr d L)).erase (g0 d L)).erase (g1 d L)).erase (g2 d L)) fun g => semVal g 0) := by
  have h01 : g1 d L ≠ g0 d L := fun e => absurd (Prod.mk.inj e).2 (by decide)
  have h02 : g2 d L ≠ g0 d L := fun e => absurd (Prod.mk.inj e).2 (by decide)
  have h12 : g2 d L ≠ g1 d L := fun e => absurd (Prod.mk.inj e).2 (by decide)
  have m0 : g0 d L ∈ ownCells (thr d L) := mem_ownCells.mpr ⟨rfl, by show (SemLoc.dma cc1_scoped0.sem : SemLoc sig).isScoped .scVector = true; decide⟩
  have m1 : g1 d L ∈ ownCells (thr d L) := mem_ownCells.mpr ⟨rfl, by show (SemLoc.dma cc1_scoped1.sem : SemLoc sig).isScoped .scVector = true; decide⟩
  have m2 : g2 d L ∈ ownCells (thr d L) := mem_ownCells.mpr ⟨rfl, by show (SemLoc.dma cc1_scoped2.sem : SemLoc sig).isScoped .scVector = true; decide⟩
  unfold SparseCore.Cfg.ownSems0
  rw [SparseCore.bigSep_erase' m0, SparseCore.bigSep_erase' (Finset.mem_erase.mpr ⟨h01, m1⟩),
    SparseCore.bigSep_erase' (Finset.mem_erase.mpr ⟨h12, Finset.mem_erase.mpr ⟨h02, m2⟩⟩)]

/-- A tile's own buffer, as a reference of the device. -/
abbrev dref (b : Ref sig .scVector) : DevRef τ sig := (Proc.scVector (cV L) (jV L)).devRef b

theorem bufs_tile :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (.scVector (cV L) (jV L))).erase (dref L cc1_scratch0)).erase (dref L cc1_scratch1)).erase (dref L cc1_scratch2)).erase (dref L cc1_scratch3))
              fun b => iprop(∃ f, ((d, b) : Loc nD τ sig) ↦{fullShare} f)) := by
  have inj : ∀ b b' : Ref sig .scVector, b ≠ b' → dref L b ≠ dref L b' := fun b b' h e => h ((Proc.scVector (cV L) (jV L)).devRef_injective e)
  have o0 : dref L cc1_scratch0 ∈ ownRefs (τ := τ) (.scVector (cV L) (jV L)) := SparseCore.Cfg.mem_ownRefs_of_owner (p := Proc.scVector (cV L) (jV L)) (b := dref L cc1_scratch0) rfl
  have o1 : dref L cc1_scratch1 ∈ ownRefs (τ := τ) (.scVector (cV L) (jV L)) := SparseCore.Cfg.mem_ownRefs_of_owner (p := Proc.scVector (cV L) (jV L)) (b := dref L cc1_scratch1) rfl
  have o2 : dref L cc1_scratch2 ∈ ownRefs (τ := τ) (.scVector (cV L) (jV L)) := SparseCore.Cfg.mem_ownRefs_of_owner (p := Proc.scVector (cV L) (jV L)) (b := dref L cc1_scratch2) rfl
  have o3 : dref L cc1_scratch3 ∈ ownRefs (τ := τ) (.scVector (cV L) (jV L)) := SparseCore.Cfg.mem_ownRefs_of_owner (p := Proc.scVector (cV L) (jV L)) (b := dref L cc1_scratch3) rfl
  unfold SparseCore.Cfg.ownBufs
  refine (SparseCore.bigSep_erase' o0).trans ?_
  rw [
    SparseCore.bigSep_erase' (Finset.mem_erase.mpr ⟨inj cc1_scratch1 cc1_scratch0 (by decide), o1⟩),
    SparseCore.bigSep_erase' (Finset.mem_erase.mpr ⟨inj cc1_scratch2 cc1_scratch1 (by decide),
      Finset.mem_erase.mpr ⟨inj cc1_scratch2 cc1_scratch0 (by decide), o2⟩⟩),
    SparseCore.bigSep_erase' (Finset.mem_erase.mpr ⟨inj cc1_scratch3 cc1_scratch2 (by decide),
      Finset.mem_erase.mpr ⟨inj cc1_scratch3 cc1_scratch1 (by decide), Finset.mem_erase.mpr ⟨inj cc1_scratch3 cc1_scratch0 (by decide), o3⟩⟩⟩)]

/-! ## The task -/

set_option maxRecDepth 1024 in
/-- A tile's task over its own storage: handed its share with anything in its row of results, it leaves the row's partial
results. -/
theorem tile_task (hF : (K (F := F)).Facts) (hA : ∀ i, (A i).toNat < 64) (hB : ∀ i, (B i).toNat < 64) (R0 : S32x192.Idx → F .f32)
    (O : CellTallies nD τ sig (HIx 1)) (W : Waits sig (HIx 1)) (hO : ∀ g, O g none = 0) :
    iprop(levAts (K (F := F)).L (K (F := F)).lev ∗ share A B d (wid L) R0
        ∗ scopedBufs (thr d L) ∗ scopedSems0 (thr d L) ∗ owes (thr d L) O W)
      ⊢ wp frame (wpE (defs₀ (F := F)) 𝒱₀ (thr d L) none) Set.univ
          (cc1__sc_hist L pW (Memref.isWhole_whole _) lW (Memref.isWhole_whole _) oW (Memref.isWhole_whole _)
            s0 (Memref.isWhole_whole _) s1 (Memref.isWhole_whole _) s2 (Memref.isWhole_whole _) s3 (Memref.isWhole_whole _) cc1_scoped0 cc1_scoped1 cc1_scoped2)
          ((fun _ => iprop(share A B d (wid L) (partOf A B) ∗ scopedBufs (thr d L) ∗ scopedSems0 (thr d L)
            ∗ ∃ W', ⌜∀ p ∈ W', p ∈ W ∨ p.2 = none ∨ p.2 = some 0⌝ ∗ owes (thr d L) O W')) : PUnit → sProp 𝕄) := by
  have hP : ∀ i, ((pR L).view.read (Elt F) A i).toNat < 64 := fun i => by rw [read_pR]; exact hA _
  have hM : ∀ i, ((lR L).view.read (Elt F) B i).toNat < 64 := fun i => by rw [read_lR]; exact hB _
  have ep : ∀ f : Buf (Elt F) (yLoc d), ((pR L).view.loc (thr d L) ↦[(pR L).view.set]{fullShare} f : sProp 𝕄) = (yLoc d ↦[imgSet (wid L)]{fullShare} f) := fun f => by rw [set_pR]
  have el : ∀ f : Buf (Elt F) (lLoc d), ((lR L).view.loc (thr d L) ↦[(lR L).view.set]{fullShare} f : sProp 𝕄) = (lLoc d ↦[imgSet (wid L)]{fullShare} f) := fun f => by rw [set_lR]
  have eo : ∀ f : Buf (Elt F) (oLoc d), ((oR L).view.loc (thr d L) ↦[(oR L).view.set]{fullShare} f : sProp 𝕄) = (oLoc d ↦[outSet (wid L)]{fullShare} f) := fun f => by rw [set_oR]
  have ew : ((oR L).view.loc (thr d L) ↦[(oR L).view.set]{fullShare}
      (oR L).view.write (Elt F) R0 (partRow (hist ((pR L).view.read (Elt F) A) ((lR L).view.read (Elt F) B) 512)) Finset.univ : sProp 𝕄)
      = (oLoc d ↦[outSet (wid L)]{fullShare} partOf A B) := by
    rw [read_pR, read_lR, ← eo]
    exact pointsTo_congr fun i hi => write_oR L A B R0 i hi
  rw [(K (F := F)).scopedBufs_V hF d (cV L) (jV L), SparseCore.Cfg.scopedSems0_V (Val := Elt F) d (cV L) (jV L), sems_tile, bufs_tile]
  unfold share
  rw [← ep, ← el, ← eo, ← ew]
  iintro ⟨#Hlv, ⟨Hp, Hl, Ho⟩, ⟨⟨%f0, H0⟩, ⟨%f1, H1⟩, ⟨%f2, H2⟩, ⟨%f3, H3⟩, Hbufs⟩, ⟨Hm0, Hm1, Hm2, Hsems⟩, HO⟩
  ihave Hmw := ((K (F := F)).mayWaits_none (thr := thr d L) hO) $$ Hlv
  iapply (wp_wand_r frame _ _)
  isplitl [Hmw Hp Hl Ho H0 H1 H2 H3 Hm0 Hm1 Hm2 HO]
  · iapply (tile_run d L O W A B R0 hP hM f0 f1 f2 f3)
    isplitl [Hmw]; · iexact Hmw
    isplitl [Hp]; · iexact Hp
    isplitl [Hl]; · iexact Hl
    isplitl [Ho]; · iexact Ho
    isplitl [H0]; · iexact H0
    isplitl [H1]; · iexact H1
    isplitl [H2]; · iexact H2
    isplitl [H3]; · iexact H3
    isplitl [Hm0]; · iexact Hm0
    isplitl [Hm1]; · iexact Hm1
    isplitl [Hm2]; · iexact Hm2
    iexact HO
  iintro %_ ⟨Hp, Hl, Ho, H0, H1, H2, H3, Hm0, Hm1, Hm2, %W', %hW', HO⟩
  isplitl [Hp Hl Ho]
  · isplitl [Hp]; · iexact Hp
    isplitl [Hl]; · iexact Hl
    iexact Ho
  isplitl [H0 H1 H2 H3 Hbufs]
  · isplitl [H0]; · iexact H0
    isplitl [H1]; · iexact H1
    isplitl [H2]; · iexact H2
    isplitl [H3]; · iexact H3
    iexact Hbufs
  isplitl [Hm0 Hm1 Hm2 Hsems]
  · isplitl [Hm0]; · iexact Hm0
    isplitl [Hm1]; · iexact Hm1
    isplitl [Hm2]; · iexact Hm2
    iexact Hsems
  iexists W'; isplitr
  · ipureintro; exact fun p hp => (hW' p hp).imp_right Or.inl
  · iexact HO

end Tile

/-! ## The call's payloads -/

variable (m : (ℓ : Loc nD τ sig) → Buf (Elt F) ℓ)

/-- The class-major logits. -/
def xOf (d : Dev nD) : S50x64x4096.Idx → F .f32 :=
  transpose S50x64x4096 [1, 0, 2] (m ((SparseCore.T d).loc main_arg0)) transposes_S64x50x4096_S50x64x4096_1_0_2
/-- The predictions. -/
def aOf (d : Dev nD) : S64x4096.Idx → BitVec 32 := predOf (xOf m d)
/-- The labels. -/
def bOf (d : Dev nD) : S64x4096.Idx → BitVec 32 := m (lLoc d)

/-- A prediction is a class. -/
theorem aOf_lt (d : Dev nD) (i : S64x4096.Idx) : (aOf m d i).toNat < 64 :=
  lt_of_le_of_lt (amaxAt_le _ 49 (by decide)) (by decide)

/-- What the call hands over and gets back: each tile its share, the rows of results as launched, then filled. -/
def P : (K (F := F)).Pay (nD := nD) (Val := Elt F) (Name := ℕ) (U := UU) where
  st := fun q d c => match q with
    | 0 => bigSep Finset.univ fun i : Fin ((K (F := F)).nSub 0) => share (aOf m d) (bOf m d) d (wid (tl (F := F) c i)) (m (oLoc d))
  dn := fun q d c => match q with
    | 0 => bigSep Finset.univ fun i : Fin ((K (F := F)).nSub 0) => share (aOf m d) (bOf m d) d (wid (tl (F := F) c i)) (partOf (aOf m d) (bOf m d))
  go := fun q d c i => match q with | 0 => share (aOf m d) (bOf m d) d (wid (tl (F := F) c i)) (m (oLoc d))
  td := fun q d c i => match q with | 0 => share (aOf m d) (bOf m d) d (wid (tl (F := F) c i)) (partOf (aOf m d) (bOf m d))
  x := fun _ _ => iprop(emp)

instance share_storable (d : Dev nD) (w : ℕ) (R : S32x192.Idx → F .f32) : BI.Storable (upEmb : UEmb _ 𝕄) (share A B d w R) := by
  unfold share; infer_instance

instance P_storable : (P (F := F) m).IsStorable where
  st q d c := match q with
    | 0 => (inferInstance : BI.Storable (upEmb : UEmb _ 𝕄)
        (bigSep Finset.univ fun i : Fin ((K (F := F)).nSub 0) => share (aOf m d) (bOf m d) d (wid (tl (F := F) c i)) (m (oLoc d))))
  dn q d c := match q with
    | 0 => (inferInstance : BI.Storable (upEmb : UEmb _ 𝕄)
        (bigSep Finset.univ fun i : Fin ((K (F := F)).nSub 0) => share (aOf m d) (bOf m d) d (wid (tl (F := F) c i)) (partOf (aOf m d) (bOf m d))))
  go q d c i := match q with
    | 0 => (inferInstance : BI.Storable (upEmb : UEmb _ 𝕄) (share (aOf m d) (bOf m d) d (wid (tl (F := F) c i)) (m (oLoc d))))
  td q d c i := match q with
    | 0 => (inferInstance : BI.Storable (upEmb : UEmb _ 𝕄) (share (aOf m d) (bOf m d) d (wid (tl (F := F) c i)) (partOf (aOf m d) (bOf m d))))

theorem defs₀_tile (c : Fin τ.nSC) (s : Fin τ.nSub) :
    defs₀ (F := F) (.scVector c s) 1 ()
      = SparseCore.onTile hcore1 hsub1 (fun c s => cc1__sc_hist (crd c s) pW (Memref.isWhole_whole _) lW (Memref.isWhole_whole _) oW (Memref.isWhole_whole _)
          s0 (Memref.isWhole_whole _) s1 (Memref.isWhole_whole _) s2 (Memref.isWhole_whole _) s3 (Memref.isWhole_whole _) cc1_scoped0 cc1_scoped1 cc1_scoped2) ⟨⟩ c s := rfl

set_option maxRecDepth 100000 in
theorem tileObl (hF : (K (F := F)).Facts) (hB : ∀ d i, (bOf m d i).toNat < 64) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_tile]; simp only [SparseCore.onTile, hc, and_self, ↓reduceDIte]
  have key := tile_task (aOf m d) (bOf m d) d (crd ⟨_, hc.1⟩ ⟨_, hc.2⟩) hF (aOf_lt m d) (hB d) (m (oLoc d)) O W hO
  have pre : iprop(levAts (K (F := F)).L (K (F := F)).lev ∗ (P m).x 0 (SparseCore.V d ((K (F := F)).core 0 c) ((K (F := F)).sub 0 i)) ∗ (P m).go 0 d c i
      ∗ scopedBufs (SparseCore.V d ((K (F := F)).core 0 c) ((K (F := F)).sub 0 i)) ∗ scopedSems0 (SparseCore.V d ((K (F := F)).core 0 c) ((K (F := F)).sub 0 i))
      ∗ owes (SparseCore.V d ((K (F := F)).core 0 c) ((K (F := F)).sub 0 i)) O W) ⊢
    iprop(levAts (K (F := F)).L (K (F := F)).lev ∗
      share (aOf m d) (bOf m d) d (wid (crd ⟨_, hc.1⟩ ⟨_, hc.2⟩)) (m (oLoc d)) ∗
        scopedBufs (thr d (crd ⟨_, hc.1⟩ ⟨_, hc.2⟩)) ∗ scopedSems0 (thr d (crd ⟨_, hc.1⟩ ⟨_, hc.2⟩)) ∗ owes (thr d (crd ⟨_, hc.1⟩ ⟨_, hc.2⟩)) O W) := by
    have e : (P m).go 0 d c i = share (aOf m d) (bOf m d) d (wid (crd ⟨_, hc.1⟩ ⟨_, hc.2⟩)) (m (oLoc d)) := rfl
    rw [e]
    iintro ⟨Hlv, -, Hgo, Hb, Hs, HO⟩
    isplitl [Hlv]; · iexact Hlv
    isplitl [Hgo]; · iexact Hgo
    isplitl [Hb]; · iexact Hb
    isplitl [Hs]; · iexact Hs
    iexact HO
  have post : iprop(share (aOf m d) (bOf m d) d (wid (crd ⟨_, hc.1⟩ ⟨_, hc.2⟩)) (partOf (aOf m d) (bOf m d)) ∗ scopedBufs (thr d (crd ⟨_, hc.1⟩ ⟨_, hc.2⟩)) ∗ scopedSems0 (thr d (crd ⟨_, hc.1⟩ ⟨_, hc.2⟩))
            ∗ ∃ W', ⌜∀ p ∈ W', p ∈ W ∨ p.2 = none ∨ p.2 = some 0⌝ ∗ owes (thr d (crd ⟨_, hc.1⟩ ⟨_, hc.2⟩)) O W') ⊢
      iprop((P m).td 0 d c i ∗
          scopedBufs (SparseCore.V d ((K (F := F)).core 0 c) ((K (F := F)).sub 0 i)) ∗
            scopedSems0 (SparseCore.V d ((K (F := F)).core 0 c) ((K (F := F)).sub 0 i)) ∗
              ∃ W',
                ⌜∀ p ∈ W', p ∈ W ∨ p.2 = none ∨ SparseCore.Cfg.Blocks.blk (0 : Fin 1) p.2⌝ ∗
                  owes (SparseCore.V d ((K (F := F)).core 0 c) ((K (F := F)).sub 0 i)) O W') := by
    have e : (P m).td 0 d c i = share (aOf m d) (bOf m d) d (wid (crd ⟨_, hc.1⟩ ⟨_, hc.2⟩)) (partOf (aOf m d) (bOf m d)) := rfl
    rw [e]
    iintro ⟨Hgo, Hb, Hs, %W', %hW, HO⟩
    isplitl [Hgo]; · iexact Hgo
    isplitl [Hb]; · iexact Hb
    isplitl [Hs]; · iexact Hs
    iexists W'
    isplitr
    · ipureintro
      intro p hp
      exact hW p hp
    · iexact HO
  exact pre.trans (key.trans (wp_mono frame _ _ fun _ => post))

theorem vecSplit : (K (F := F)).VecSplit' (P m) 0 := by
  intro d c
  show (bigSep Finset.univ fun i : Fin ((K (F := F)).nSub 0) => share (aOf m d) (bOf m d) d (wid (tl (F := F) c i)) (m (oLoc d)))
    ⊢ |={Set.univ}=> iprop((bigSep Finset.univ fun i : Fin ((K (F := F)).nSub 0) => share (aOf m d) (bOf m d) d (wid (tl (F := F) c i)) (m (oLoc d)))
      ∗ ((bigSep Finset.univ fun i : Fin ((K (F := F)).nSub 0) => share (aOf m d) (bOf m d) d (wid (tl (F := F) c i)) (partOf (aOf m d) (bOf m d)))
        -∗ (bigSep Finset.univ fun i : Fin ((K (F := F)).nSub 0) => share (aOf m d) (bOf m d) d (wid (tl (F := F) c i)) (partOf (aOf m d) (bOf m d)))))
  iintro H; imodintro
  isplitl [H]; · iexact H
  iintro H; iexact H

/-! ## The arrays and the shares -/

/-- The shares of all tiles are the three arrays. -/
theorem shares_eq (d : Dev nD) (R : S32x192.Idx → F .f32) :
    (bigSep Finset.univ fun c : Fin ((K (F := F)).nCore 0) => bigSep Finset.univ fun i : Fin ((K (F := F)).nSub 0) =>
        share A B d (wid (tl (F := F) c i)) R : sProp 𝕄)
      = iprop((yLoc d ↦{fullShare} A) ∗ (lLoc d ↦{fullShare} B) ∗ (oLoc d ↦{fullShare} R)) := by
  have hne : ∀ x y : Fin ((K (F := F)).nCore 0) × Fin ((K (F := F)).nSub 0), x ≠ y → wid (tl (F := F) x.1 x.2) ≠ wid (tl (F := F) y.1 y.2) := by
    intro x y h e
    have hx : x.1.val < 2 := x.1.isLt
    have hy : y.1.val < 2 := y.1.isLt
    have e : x.2.val * 2 + x.1.val = y.2.val * 2 + y.1.val := e
    exact h (Prod.ext (Fin.ext (by omega)) (Fin.ext (by omega)))
  have hex : ∀ w < 32, ∃ x : Fin ((K (F := F)).nCore 0) × Fin ((K (F := F)).nSub 0), wid (tl (F := F) x.1 x.2) = w := by
    intro w hw
    refine ⟨((⟨w % 2, Nat.mod_lt _ (by decide)⟩ : Fin 2), (⟨w / 2, by omega⟩ : Fin 16)), ?_⟩
    show w / 2 * 2 + w % 2 = w
    omega
  have himg : (Finset.univ : Finset (Fin ((K (F := F)).nCore 0) × Fin ((K (F := F)).nSub 0))).biUnion (fun x => imgSet (wid (tl (F := F) x.1 x.2))) = Finset.univ := by
    refine Finset.eq_univ_of_forall fun j => Finset.mem_biUnion.mpr ?_
    have hj : (j 0).val < 64 := (j 0).isLt
    obtain ⟨x, hx⟩ := hex ((j 0).val / 2) (by omega)
    exact ⟨x, Finset.mem_univ _, Finset.mem_filter.mpr ⟨Finset.mem_univ _, hx.symm⟩⟩
  have hout : (Finset.univ : Finset (Fin ((K (F := F)).nCore 0) × Fin ((K (F := F)).nSub 0))).biUnion (fun x => outSet (wid (tl (F := F) x.1 x.2))) = Finset.univ := by
    refine Finset.eq_univ_of_forall fun j => Finset.mem_biUnion.mpr ?_
    obtain ⟨x, hx⟩ := hex (j 0).val (j 0).isLt
    exact ⟨x, Finset.mem_univ _, Finset.mem_filter.mpr ⟨Finset.mem_univ _, hx.symm⟩⟩
  have dimg : ∀ x ∈ (Finset.univ : Finset (Fin ((K (F := F)).nCore 0) × Fin ((K (F := F)).nSub 0))), ∀ y ∈ (Finset.univ : Finset (Fin ((K (F := F)).nCore 0) × Fin ((K (F := F)).nSub 0))),
      x ≠ y → Disjoint (imgSet (wid (tl (F := F) x.1 x.2))) (imgSet (wid (tl (F := F) y.1 y.2))) := fun x _ y _ h =>
    Finset.disjoint_left.mpr fun j h1 h2 => hne x y h ((Finset.mem_filter.mp h1).2.symm.trans (Finset.mem_filter.mp h2).2)
  have dout : ∀ x ∈ (Finset.univ : Finset (Fin ((K (F := F)).nCore 0) × Fin ((K (F := F)).nSub 0))), ∀ y ∈ (Finset.univ : Finset (Fin ((K (F := F)).nCore 0) × Fin ((K (F := F)).nSub 0))),
      x ≠ y → Disjoint (outSet (wid (tl (F := F) x.1 x.2))) (outSet (wid (tl (F := F) y.1 y.2))) := fun x _ y _ h =>
    Finset.disjoint_left.mpr fun j h1 h2 => hne x y h ((Finset.mem_filter.mp h1).2.symm.trans (Finset.mem_filter.mp h2).2)
  rw [← bigSep_univ_prod (fun x : Fin ((K (F := F)).nCore 0) × Fin ((K (F := F)).nSub 0) => share A B d (wid (tl (F := F) x.1 x.2)) R)]
  unfold share
  rw [bigSep_sep', bigSep_sep', ← pointsTo_biUnion Finset.univ (ℓ := yLoc d) _ dimg, ← pointsTo_biUnion Finset.univ (ℓ := lLoc d) _ dimg,
    ← pointsTo_biUnion Finset.univ (ℓ := oLoc d) _ dout]
  rw [himg, hout]

end Cert.Proof.Seg
-- ==== Proof.Launch.lean ====
module

public import proofs.«01_k».proof.Proof.Task

/-!
  The whole program's run: the launch's ghost state, @main on the TensorCore, and what the final memory holds.
-/

@[expose] public section

noncomputable section

namespace Cert.Proof.Seg

open Cert.KernelIdeal Cert.KernelIdeal.Gen
open Idealize.ShloMosaic
open Idealize.ShloMosaic.StableHlo (held wp_hlo_within after)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The pipelines' cells are told apart. -/
theorem phinj : Function.Injective (Pipeline.cellOf (nD := nD) (τ := τ) (Pipeline.pin (pcfgs (F := F)) adm)) := cellOf_inj

/-- The ghost state at the launch: the handshakes' rounds, the pipeline's, no copy begun. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What the TensorCore is dealt for its region. -/
def G (d : Dev nD) : sProp 𝕄 :=
  iprop((bigSep Finset.univ fun p : Fin 1 => Pipeline.cellsGhost (Pipeline.pin (pcfgs (F := F)) adm) EP p d)
    ∗ (bigSep Finset.univ fun p : Fin 1 => Pipeline.toksInit (Pipeline.pin (pcfgs (F := F)) adm) EP p d))

theorem G_eq (d : Dev nD) : (G d : sProp 𝕄) = iprop(Pipeline.cellsGhost (Pipeline.pin (pcfgs (F := F)) adm) EP 0 d
    ∗ Pipeline.toksInit (Pipeline.pin (pcfgs (F := F)) adm) EP 0 d) := by
  unfold G
  rw [bigSep_univ_of_subsingleton (0 : Fin 1), bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP phinj) $$ HP with ⟨Hg, Ht⟩
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 1 => (P m).x q thr) = (iprop(emp) : sProp 𝕄) from
    (bigSep_congr fun _ _ => bigSep_emp_const _).trans (bigSep_emp_const _)]
  iempintro

/-! ## @main's arrays -/

abbrev dr (b : Ref sig .tc) : DevRef τ sig := Proc.devRef .tc b

/-- The arrays of the transpose. -/
abbrev S2 : Finset (DevRef τ sig) := {dr main_arg0, dr main_v0}
/-- The arrays of the lines after the SparseCore call. -/
abbrev S8 : Finset (DevRef τ sig) := {dr main_v2, dr main_cst, dr main_v3, dr main_v4, dr main_v5, dr main_v6, dr main_v7, dr main_v8}

abbrev pts (d : Dev nD) (b : Ref sig .tc) (f : Buf (Elt F) ((SparseCore.T d : Thread nD τ).loc b)) : sProp 𝕄 := (SparseCore.T d : Thread nD τ).loc b ↦{fullShare} f

theorem held_S2 (d : Dev nD) (W : Valuation τ sig (Elt F)) :
    (held (SparseCore.T d) S2 W : sProp 𝕄) = iprop(pts d main_arg0 (W (dr main_arg0)) ∗ pts d main_v0 (W (dr main_v0))) := by
  unfold held S2
  rw [SparseCore.bigSep_insert' (by decide), bigSep_singleton]

theorem held_S8 (d : Dev nD) (W : Valuation τ sig (Elt F)) :
    (held (SparseCore.T d) S8 W : sProp 𝕄) = iprop(pts d main_v2 (W (dr main_v2)) ∗ pts d main_cst (W (dr main_cst)) ∗ pts d main_v3 (W (dr main_v3))
      ∗ pts d main_v4 (W (dr main_v4)) ∗ pts d main_v5 (W (dr main_v5)) ∗ pts d main_v6 (W (dr main_v6)) ∗ pts d main_v7 (W (dr main_v7)) ∗ pts d main_v8 (W (dr main_v8))) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(pts d main_arg0 (W main_arg0) ∗ pts d main_arg1 (W main_arg1) ∗ pts d main_v0 (W main_v0) ∗ pts d main_v1 (W main_v1)
      ∗ pts d main_v2 (W main_v2) ∗ pts d main_cst (W main_cst) ∗ pts d main_v3 (W main_v3) ∗ pts d main_v4 (W main_v4) ∗ pts d main_v5 (W main_v5)
      ∗ pts d main_v6 (W main_v6) ∗ pts d main_v7 (W main_v7) ∗ pts d main_v8 (W main_v8)) := by
  unfold unscopedBufs
  rw [show (Finset.univ.filter fun b : Ref sig .tc => ¬ b.isScoped)
      = {main_arg0, main_arg1, main_v0, main_v1, main_v2, main_cst, main_v3, main_v4, main_v5, main_v6, main_v7, main_v8} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The host's operations -/

abbrev opT : HloOp τ sig (Elt F) := StableHlo.unary main_arg0 main_v0 ((transpose S50x64x4096 [1, 0, 2] · transposes_S64x50x4096_S50x64x4096_1_0_2) : (⟨S64x50x4096, .f32⟩ : BufTy).Contents (Elt F) → (⟨S50x64x4096, .f32⟩ : BufTy).Contents (Elt F))
abbrev op0 : HloOp τ sig (Elt F) := StableHlo.nullary main_cst (constant S_ .f32 0x00000000#32)
abbrev op3 : HloOp τ sig (Elt F) := StableHlo.binary main_v2 main_cst main_v3 ((fun x v => Host.reduceAdd x v reducesTo_S32x192_S192_d0 h_S_) : (⟨S32x192, .f32⟩ : BufTy).Contents (Elt F) → (⟨S_, .f32⟩ : BufTy).Contents (Elt F) → (⟨S192, .f32⟩ : BufTy).Contents (Elt F))
abbrev op4 : HloOp τ sig (Elt F) := StableHlo.unary main_v3 main_v4 ((extractStridedSlice S50 ![0] · slices_S192_S50_0) : (⟨S192, .f32⟩ : BufTy).Contents (Elt F) → (⟨S50, .f32⟩ : BufTy).Contents (Elt F))
abbrev op5 : HloOp τ sig (Elt F) := StableHlo.unary main_v3 main_v5 ((extractStridedSlice S50 ![64] · slices_S192_S50_64) : (⟨S192, .f32⟩ : BufTy).Contents (Elt F) → (⟨S50, .f32⟩ : BufTy).Contents (Elt F))
abbrev op6 : HloOp τ sig (Elt F) := StableHlo.unary main_v3 main_v6 ((extractStridedSlice S50 ![128] · slices_S192_S50_128) : (⟨S192, .f32⟩ : BufTy).Contents (Elt F) → (⟨S50, .f32⟩ : BufTy).Contents (Elt F))
abbrev op7 : HloOp τ sig (Elt F) := StableHlo.binary main_v5 main_v6 main_v7 (addf : (⟨S50, .f32⟩ : BufTy).Contents (Elt F) → (⟨S50, .f32⟩ : BufTy).Contents (Elt F) → (⟨S50, .f32⟩ : BufTy).Contents (Elt F))
abbrev op8 : HloOp τ sig (Elt F) := StableHlo.binary main_v7 main_v4 main_v8 (subf : (⟨S50, .f32⟩ : BufTy).Contents (Elt F) → (⟨S50, .f32⟩ : BufTy).Contents (Elt F) → (⟨S50, .f32⟩ : BufTy).Contents (Elt F))

/-- The launch contents. -/
def V0 (d : Dev nD) : Valuation τ sig (Elt F) := fun b => m (d, b)
/-- The contents after the SparseCore call. -/
def V1 (d : Dev nD) : Valuation τ sig (Elt F) := Function.update (V0 m d) (dr main_v2) (partOf (aOf m d) (bOf m d))
/-- The contents after the host's lines. -/
def V8 (d : Dev nD) : Valuation τ sig (Elt F) :=
  after [op0 (F := F), op3, op4, op5, op6, op7, op8] (V1 m d)

theorem V8_eq (d : Dev nD) : V8 m d = (op8 (F := F)).result ((op7 (F := F)).result ((op6 (F := F)).result ((op5 (F := F)).result ((op4 (F := F)).result
    ((op3 (F := F)).result ((op0 (F := F)).result (V1 m d))))))) := rfl

/-- The tiles' results summed. -/
def sumOf (d : Dev nD) : S192.Idx → F .f32 :=
  Host.reduceAdd (partOf (aOf m d) (bOf m d)) (constant S_ .f32 0x00000000#32) reducesTo_S32x192_S192_d0 h_S_
/-- The first result. -/
def interOf (d : Dev nD) : S50.Idx → F .f32 := extractStridedSlice S50 ![0] (sumOf m d) slices_S192_S50_0
/-- The second result. -/
def unionOf (d : Dev nD) : S50.Idx → F .f32 :=
  subf (addf (extractStridedSlice S50 ![64] (sumOf m d) slices_S192_S50_64) (extractStridedSlice S50 ![128] (sumOf m d) slices_S192_S50_128)) (interOf m d)

theorem V1_v2 (d : Dev nD) : V1 m d (dr main_v2) = partOf (aOf m d) (bOf m d) := Function.update_self _ _ _

theorem V1_keep (d : Dev nD) (b : Ref sig .tc) (h : dr b ≠ dr main_v2) : V1 m d (dr b) = m ((SparseCore.T d : Thread nD τ).loc b) := Function.update_of_ne h _ _

theorem V8_v4 (d : Dev nD) : V8 m d (dr main_v4) = interOf m d := by
  unfold V8
  after_results
  rw [V1_v2]; rfl
theorem V8_v8 (d : Dev nD) : V8 m d (dr main_v8) = unionOf m d := by
  unfold V8
  after_results
  rw [V1_v2]; rfl

/-! ## The main program -/

theorem Otc_none (d : Dev nD) (n : ℕ) (g : GSem nD τ sig) : (K (F := F)).Otc d n g none = 0 := by
  by_contra h
  have := (K (F := F)).lev_of_Otc_pos (Nat.pos_of_ne_zero h)
  rw [(K (F := F)).lev_none] at this
  omega

/-- The TensorCore's hold on the handshakes before the call, apart from what it owes. -/
def restSt (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp 𝕄)
    = iprop((∃ W, ⌜(K (F := F)).WBelow (SparseCore.T d) W 0⌝ ∗ owes (SparseCore.T d) ((K (F := F)).Otc d 0) W) ∗ restSt d) := rfl

theorem st0_eq (d : Dev nD) : (bigSep Finset.univ fun c : Fin ((K (F := F)).nCore 0) => (P m).st 0 d c)
    = iprop(pts d main_v1 (aOf m d) ∗ pts d main_arg1 (m (lLoc d)) ∗ pts d main_v2 (m (oLoc d))) := shares_eq (aOf m d) (bOf m d) d (m (oLoc d))
theorem dn0_eq (d : Dev nD) : (bigSep Finset.univ fun c : Fin ((K (F := F)).nCore 0) => (P m).dn 0 d c)
    = iprop(pts d main_v1 (aOf m d) ∗ pts d main_arg1 (m (lLoc d)) ∗ pts d main_v2 (partOf (aOf m d) (bOf m d))) := shares_eq (aOf m d) (bOf m d) d (partOf (aOf m d) (bOf m d))

/-- The class-major logits, after the transpose. -/
theorem VT_v0 (d : Dev nD) : (opT (F := F)).result (V0 m d) (dr main_v0) = xOf m d := StableHlo.unary_result _ _ _ _ _ _
theorem VT_arg0 (d : Dev nD) : (opT (F := F)).result (V0 m d) (dr main_arg0) = m ((SparseCore.T d).loc main_arg0) :=
  (opT (F := F)).result_of_not_mem _ (show dr main_arg0 ∉ ({dr main_v0} : Finset (DevRef τ sig)) by decide)

/-- What @main leaves: the arguments as launched, the two results. -/
abbrev FIN (d : Dev nD) : sProp 𝕄 :=
  iprop(pts d main_arg0 (m ((SparseCore.T d).loc main_arg0)) ∗ pts d main_arg1 (m (lLoc d)) ∗ pts d main_v4 (interOf m d) ∗ pts d main_v8 (unionOf m d))

/-- The TensorCore's region, inside the whole program. -/
theorem region_step [∀ e, Nonempty (Elt F e)] (d : Dev nD) (Q : PUnit → sProp 𝕄) :
    iprop((iprop(boundary (SparseCore.T d) ∗ pts d main_v0 (xOf m d) ∗ pts d main_v1 (aOf m d)
          ∗ ∃ W, ⌜(K (F := F)).WBelow (SparseCore.T d) W 0⌝ ∗ owes (SparseCore.T d) ((K (F := F)).Otc d 0) W) -∗ Q ⟨⟩)
        ∗ boundary (SparseCore.T d) ∗ pts d main_v0 (xOf m d) ∗ pts d main_v1 (m (yLoc d))
        ∗ (∃ W, ⌜(K (F := F)).WBelow (SparseCore.T d) W 0⌝ ∗ owes (SparseCore.T d) ((K (F := F)).Otc d 0) W)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have hR := Pipeline.RegionSeg.wp (pcfgs (F := F)) adm (pdats (xOf m d) (m (yLoc d)) ((K (F := F)).Otc d 0)) (none : HIx 1) phinj EP defs₀ 𝒱₀
    (K (F := F)).L (K (F := F)).lev (reg (xOf m d) (m (yLoc d)) ((K (F := F)).Otc d 0) (Otc_none d 0)) d none (fun _ h => nomatch h)
    (fun x => .ret x) Q
  have hL : (Prog.lift (.customCall (SparseCore.inner (Pipeline.entry 0)) ()) : Prog (TpuEff nD τ sig (Elt F) (SparseCore.Sig (ΛP (F := F)) 1) (SparseCore.T d : Thread nD τ).2) PUnit)
    = SparseCore.liftProg (.op (.customCall (Pipeline.entry 0) ()) fun x => .ret x) := rfl
  rw [hL]
  have hW := (K (F := F)).wp_liftProg (D (F := F)) 𝒱 (SparseCore.T d) Set.univ none (.op (.customCall (Pipeline.entry 0) ()) fun x => .ret x) Q
  have pre : (iprop((iprop(boundary (SparseCore.T d) ∗ pts d main_v0 (xOf m d) ∗ pts d main_v1 (aOf m d)
          ∗ ∃ W, ⌜(K (F := F)).WBelow (SparseCore.T d) W 0⌝ ∗ owes (SparseCore.T d) ((K (F := F)).Otc d 0) W) -∗ Q ⟨⟩)
        ∗ boundary (SparseCore.T d) ∗ pts d main_v0 (xOf m d) ∗ pts d main_v1 (m (yLoc d))
        ∗ (∃ W, ⌜(K (F := F)).WBelow (SparseCore.T d) W 0⌝ ∗ owes (SparseCore.T d) ((K (F := F)).Otc d 0) W)
        ∗ levAts (K (F := F)).L (K (F := F)).lev ∗ Pipeline.cellsGhost (Pipeline.pin (pcfgs (F := F)) adm) EP 0 d
        ∗ Pipeline.toksInit (Pipeline.pin (pcfgs (F := F)) adm) EP 0 d) : sProp 𝕄)
    ⊢ iprop((iprop(boundary (SparseCore.T d) ∗ pts d main_v0 (xOf m d) ∗ pts d main_v1 (aOf m d)
          ∗ ∃ W, ⌜(K (F := F)).WBelow (SparseCore.T d) W 0⌝ ∗ owes (SparseCore.T d) ((K (F := F)).Otc d 0) W)
            -∗ wp frame (wpE (D (F := F)) 𝒱 (SparseCore.T d) none) Set.univ (.ret ⟨⟩) Q)
        ∗ boundary (SparseCore.T d) ∗ (pts d main_v0 (xOf m d) ∗ pts d main_v1 (m (yLoc d))
        ∗ (∃ W, ⌜(K (F := F)).WBelow (SparseCore.T d) W 0⌝ ∗ owes (SparseCore.T d) ((K (F := F)).Otc d 0) W))
        ∗ levAts (K (F := F)).L (K (F := F)).lev ∗ Pipeline.cellsGhost (Pipeline.pin (pcfgs (F := F)) adm) EP 0 d
        ∗ Pipeline.toksInit (Pipeline.pin (pcfgs (F := F)) adm) EP 0 d) := by
    iintro ⟨Hk, Hb, Hx, Hy, HO, Hlv, Hg, Ht⟩
    isplitl [Hk]
    · iintro ⟨Hb, Hx, Hy, HO⟩
      rw [wp_ret]; imodintro
      iapply Hk
      isplitl [Hb]; · iexact Hb
      isplitl [Hx]; · iexact Hx
      isplitl [Hy]; · iexact Hy
      iexact HO
    isplitl [Hb]; · iexact Hb
    isplitl [Hx Hy HO]
    · isplitl [Hx]; · iexact Hx
      isplitl [Hy]; · iexact Hy
      iexact HO
    isplitl [Hlv]; · iexact Hlv
    isplitl [Hg]; · iexact Hg
    iexact Ht
  rw [G_eq]
  exact pre.trans (BI.Entails.trans hR hW)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Hv0, Hv1, Hv2, Hcst, Hv3, Hv4, Hv5, Hv6, Hv7, Hv8⟩, Hts, -⟩, HG⟩
  -- the transpose
  iapply (wp_hlo_within 𝒱 (SparseCore.T d) none Set.univ (op := opT) (S := S2) (show S2 ⊆ S2 from Finset.Subset.refl _) (V := V0 m d)) $$ [Hb Ha0 Hv0]
  · isplitl [Hb]; · iexact Hb
    rw [held_S2]
    isplitl [Ha0]; · iexact Ha0
    iexact Hv0
  rw [held_S2, VT_v0, VT_arg0]
  iintro ⟨Hb, Ha0, Hv0⟩
  rw [wp_ret]; imodintro
  -- the region
  ihave #Hlv := (SparseCore.Cfg.ctx_levAts κ) $$ Hctx
  ihave Hst' := (Entails.of_eq (tcSt_zero d)) $$ Hst
  icases Hst' with ⟨HO, Hst⟩
  iapply (region_step m d _)
  isplitr [Hb Hv0 Hv1 HO HG]
  rotate_left
  · isplitl [Hb]; · iexact Hb
    isplitl [Hv0]; · iexact Hv0
    isplitl [Hv1]; · iexact Hv1
    isplitl [HO]; · iexact HO
    isplitr; · iexact Hlv
    iexact HG
  iintro ⟨Hb, Hv0, Hv1, HO⟩
  -- the SparseCore call
  iapply ((K (F := F)).wp_run (D (F := F)) 𝒱 (EH := EH) (P := P m) κ d 0) $$ [Hst HO Hv1 Ha1 Hv2 Hb Ha0 Hcst Hv3 Hv4 Hv5 Hv6 Hv7 Hv8 Hts]
  isplitr; · iexact Hctx
  isplitl [Hst HO]
  · iapply (Entails.of_eq (tcSt_zero d).symm)
    isplitl [HO]; · iexact HO
    iexact Hst
  isplitl [Hv1 Ha1 Hv2]
  · rw [st0_eq]
    isplitl [Hv1]; · iexact Hv1
    isplitl [Ha1]; · iexact Ha1
    iexact Hv2
  iintro ⟨Hst, Hdn⟩
  ihave Hdn' := (Entails.of_eq (dn0_eq m d)) $$ Hdn
  icases Hdn' with ⟨Hv1, Ha1, Hv2⟩
  -- the host's lines
  iapply (wp_hlo_within 𝒱 (SparseCore.T d) none Set.univ (op := op0) (S := S8) (show ({dr main_cst} : Finset (DevRef τ sig)) ⊆ S8 by decide) (V := V1 m d)) $$ [Hb Hv2 Hcst Hv3 Hv4 Hv5 Hv6 Hv7 Hv8]
  · isplitl [Hb]; · iexact Hb
    rw [held_S8, V1_v2, V1_keep m d main_cst (by decide), V1_keep m d main_v3 (by decide), V1_keep m d main_v4 (by decide), V1_keep m d main_v5 (by decide),
      V1_keep m d main_v6 (by decide), V1_keep m d main_v7 (by decide), V1_keep m d main_v8 (by decide)]
    isplitl [Hv2]; · iexact Hv2
    isplitl [Hcst]; · iexact Hcst
    isplitl [Hv3]; · iexact Hv3
    isplitl [Hv4]; · iexact Hv4
    isplitl [Hv5]; · iexact Hv5
    isplitl [Hv6]; · iexact Hv6
    isplitl [Hv7]; · iexact Hv7
    iexact Hv8
  iintro ⟨Hb, Hheld⟩
  rw [wp_ret]; imodintro
  iapply (wp_hlo_within 𝒱 (SparseCore.T d) none Set.univ (op := op3) (S := S8) (show ({dr main_v2, dr main_cst, dr main_v3} : Finset (DevRef τ sig)) ⊆ S8 by decide)) $$ [Hb Hheld]
  · isplitl [Hb] <;> iassumption
  iintro ⟨Hb, Hheld⟩
  rw [wp_ret]; imodintro
  iapply (wp_hlo_within 𝒱 (SparseCore.T d) none Set.univ (op := op4) (S := S8) (show ({dr main_v3, dr main_v4} : Finset (DevRef τ sig)) ⊆ S8 by decide)) $$ [Hb Hheld]
  · isplitl [Hb] <;> iassumption
  iintro ⟨Hb, Hheld⟩
  rw [wp_ret]; imodintro
  iapply (wp_hlo_within 𝒱 (SparseCore.T d) none Set.univ (op := op5) (S := S8) (show ({dr main_v3, dr main_v5} : Finset (DevRef τ sig)) ⊆ S8 by decide)) $$ [Hb Hheld]
  · isplitl [Hb] <;> iassumption
  iintro ⟨Hb, Hheld⟩
  rw [wp_ret]; imodintro
  iapply (wp_hlo_within 𝒱 (SparseCore.T d) none Set.univ (op := op6) (S := S8) (show ({dr main_v3, dr main_v6} : Finset (DevRef τ sig)) ⊆ S8 by decide)) $$ [Hb Hheld]
  · isplitl [Hb] <;> iassumption
  iintro ⟨Hb, Hheld⟩
  rw [wp_ret]; imodintro
  iapply (wp_hlo_within 𝒱 (SparseCore.T d) none Set.univ (op := op7) (S := S8) (show ({dr main_v5, dr main_v6, dr main_v7} : Finset (DevRef τ sig)) ⊆ S8 by decide)) $$ [Hb Hheld]
  · isplitl [Hb] <;> iassumption
  iintro ⟨Hb, Hheld⟩
  rw [wp_ret]; imodintro
  iapply (wp_hlo_within 𝒱 (SparseCore.T d) none Set.univ (op := op8) (S := S8) (show ({dr main_v7, dr main_v4, dr main_v8} : Finset (DevRef τ sig)) ⊆ S8 by decide)) $$ [Hb Hheld]
  · isplitl [Hb] <;> iassumption
  iintro ⟨Hb, Hheld⟩
  rw [wp_ret]; imodintro; imodintro
  rw [← V8_eq]
  ihave Hh := (Entails.of_eq (held_S8 (F := F) d (V8 m d))) $$ Hheld
  icases Hh with ⟨-, -, -, Hv4, -, -, -, Hv8⟩
  rw [V8_v4, V8_v8]
  isplitl [Hst]; · iexact Hst
  isplitr [Hb Hts]
  · isplitl [Ha0]; · iexact Ha0
    isplitl [Ha1]; · iexact Ha1
    isplitl [Hv4]; · iexact Hv4
    iexact Hv8
  isplitl [Hb] <;> iassumption

/-! ## The run -/

/-- What the final memory of device `d` holds. -/
def fq (d : Dev nD) (s' : Phys nD τ sig (Elt F)) : Prop :=
  s'.mem.mem ((SparseCore.T d).loc main_arg0) = m ((SparseCore.T d).loc main_arg0) ∧ s'.mem.mem (lLoc d) = m (lLoc d)
    ∧ s'.mem.mem ((SparseCore.T d).loc main_v4) = interOf m d ∧ s'.mem.mem ((SparseCore.T d).loc main_v8) = unionOf m d

/-- An array held whole is what the memory has. -/
theorem pts_agree (d : Dev nD) (b : Ref sig .tc) (f : Buf (Elt F) ((SparseCore.T d : Thread nD τ).loc b)) (s' : Phys nD τ sig (Elt F)) :
    iprop(pts d b f ∗ SI s') ⊢ (iprop(⌜s'.mem.mem ((SparseCore.T d : Thread nD τ).loc b) = f⌝ ∗ SI s') : sProp 𝕄) := by
  iintro ⟨H, HSI⟩
  ihave H := (persistent_entails_right (SI_pointsTo_agree (st := s') (ℓ := (SparseCore.T d : Thread nD τ).loc b) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H4, H8⟩, HSI⟩
  ihave H := (pts_agree d main_arg0 _ s') $$ [H0 HSI]
  · isplitl [H0] <;> iassumption
  icases H with ⟨%h0, HSI⟩
  ihave H := (pts_agree d main_arg1 _ s') $$ [H1 HSI]
  · isplitl [H1] <;> iassumption
  icases H with ⟨%h1, HSI⟩
  ihave H := (pts_agree d main_v4 _ s') $$ [H4 HSI]
  · isplitl [H4] <;> iassumption
  icases H with ⟨%h4, HSI⟩
  ihave H := (pts_agree d main_v8 _ s') $$ [H8 HSI]
  · isplitl [H8] <;> iassumption
  icases H with ⟨%h8, -⟩
  ipureintro; exact ⟨h0, h1, h4, h8⟩

/-- What a run ends in: the arguments as launched, the two results, every counter zero. -/
def QC : PUnit × MemSt nD τ sig (Elt F) → Prop := fun r =>
  (∀ d : Dev nD, r.2.mem ((SparseCore.T d).loc main_arg0) = m ((SparseCore.T d).loc main_arg0) ∧ r.2.mem (lLoc d) = m (lLoc d)
    ∧ r.2.mem ((SparseCore.T d).loc main_v4) = interOf m d ∧ r.2.mem ((SparseCore.T d).loc main_v8) = unionOf m d) ∧ r.2.sem = fun _ => 0

theorem run_main [∀ e, Nonempty (Elt F e)] (hB : ∀ d i, (bOf m d i).toNat < 64) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hB)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Seg
-- ==== Proof.Frames.lean ====
module

public import proofs.«01_k».proof.Defs
public import proofs.«01_k».proof.Proof.Launch
public import proofs.«01_k».proof.Proof.Gen.Kernel
public import proofs.«01_k».proof.Proof.Gen.Pre_labels_in_range
public import Idealize.ShloMosaic.Lib.ReduceAll
public import Idealize.ShloMosaic.Lib.StableHlo.Predicate

/-!
  The precondition read at one label, and the two frames of the kernel.
-/

@[expose] public section

noncomputable section

namespace Cert.Proof

open Idealize.ShloMosaic Idealize.SL.Sem

/-- A word between 0 and 50 as signed numbers is below 50 as a natural number. -/
theorem lt_of_cmps (v : BitVec 32) (h : IntOp.andi (IntOp.cmpi .sge v 0#32) (IntOp.cmpi .slt v 50#32) = 1#1) : v.toNat < 50 := by
  have hb : ∀ a b : BitVec 1, IntOp.andi a b = 1#1 → a = 1#1 ∧ b = 1#1 := by decide
  obtain ⟨h1, h2⟩ := hb _ _ h
  have h1 : (0#32).sle v = true := (StableHlo.Predicate.ofBool_eq_one_iff _).mp h1
  have h2 : v.slt 50#32 = true := (StableHlo.Predicate.ofBool_eq_one_iff _).mp h2
  simp only [BitVec.sle_eq_decide, BitVec.slt_eq_decide, decide_eq_true_eq] at h1 h2
  have e0 : (0#32).toInt = 0 := rfl
  have e50 : (50#32).toInt = 50 := rfl
  rw [e0] at h1
  rw [e50] at h2
  rw [BitVec.toInt_eq_toNat_cond] at h1 h2
  split at h1 <;> omega

/-- Under the precondition every label is below 50. -/
theorem label_lt {F : FTy → Type} [FloatOps F] (x : FVec F Cert.Pre_labels_in_range.S64x50x4096 .f32) (y : IVec Cert.Pre_labels_in_range.S64x4096 32)
    (h : Cert.Pre_labels_in_range.fn (F := F) x y = fun _ => 1#1) (i : Cert.Pre_labels_in_range.S64x4096.Idx) : (y i).toNat < 50 := by
  have : Subsingleton Cert.Pre_labels_in_range.S_.Idx := ⟨fun a b => funext fun k => k.elim0⟩
  exact lt_of_cmps (y i) (Host.reduce_andi_all _ _ _ _ _ (congrFun h (fun k => k.elim0)) i)

/-- The run at any values, read at the arguments and the counters. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (hB : ∀ d i, (Seg.bOf m d i).toNat < 64) :
    θ_run (Cert.KernelIdeal.defs (F := F)) (Cert.KernelIdeal.threads (F := F)) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono (fun _ h => ⟨fun c => ⟨(h.1 c).1, (h.1 c).2.1⟩, h.2⟩) (Seg.run_main (F := F) m ρ hB)

/-- The two programs' kernel bodies are one table, a processor and a label at a time. -/
theorem bodies_eq : Cert.Kernel.defs₀ (F := Bits) = Cert.KernelIdeal.defs₀ (F := Bits) := by
  funext p ℓ a
  match p, ℓ, a with
  | .tc, 0, (t, s) => rfl
  | .tc, 1, a => rfl
  | .scVector c s, 0, a => rfl
  | .scVector c s, 1, a => rfl
  | .scScalar c, 0, a => rfl
  | .scScalar c, 1, a => rfl

/-- So are the tables with the calls' own labels. -/
theorem tables_eq : Cert.Kernel.defs (F := Bits) = Cert.KernelIdeal.defs (F := Bits) :=
  congrArg (fun D => Cert.Kernel.sc.defs (Pipeline.defs Cert.Kernel.pcfgs D)) bodies_eq

/-- `Cert.quiescent_Kernel`: the run at the words; the two programs are one text. -/
theorem frame_kernel : Cert.quiescent_Kernel := by
  intro m ρ hp
  rw [tables_eq]
  exact frame_any (F := Bits) m ρ fun d i => (label_lt (F := Bits) _ _ (hp d) i).trans (by decide)

/-- `Cert.quiescent_KernelIdeal`: the same run at the extended reals. -/
theorem frame_kernelIdeal : Cert.quiescent_KernelIdeal := fun m ρ hp =>
  frame_any (F := Ideal) m ρ fun d i => (label_lt (F := Ideal) _ _ (hp d) i).trans (by decide)

end Cert.Proof

end
-- ==== Proof.RefRun.lean ====
module

public import proofs.«01_k».proof.Defs
public import proofs.«01_k».proof.Proof.Gen.ReferenceIdeal
public import proofs.«01_k».proof.Proof.Gen.Pre_labels_in_range
public import Idealize.ShloMosaic.Lib.StableHlo.Run
public import Idealize.ShloMosaic.Lib.Quiescent

/-!
  The reference's run: its StableHLO operations in order, the two results as operations of the arguments, and its frame.
-/

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations that leave the two images of classes, as rows. -/
abbrev ops₁ : List (HloOp τ sig (Elt F)) :=
  [ TRef.nullary main_call0.v0 (iotaInDim S64x50x4096 32 1),
    TRef.nullary main_call0.cst (constant S_ .f32 0xFF800000#32),
    TRef.nullary main_call0.c (constantI S_ 32 0#32),
    TRef.quaternary (.of main_arg0) main_call0.v0 main_call0.cst main_call0.c main_call0.v1_0 (fun x y u v j => (Host.argReduce reducer_argmax_f32_i32 x y u v reducesTo_S64x50x4096_S64x4096_d1 h_S_ j).1),
    TRef.quaternary (.of main_arg0) main_call0.v0 main_call0.cst main_call0.c main_call0.v1_1 (fun x y u v j => (Host.argReduce reducer_argmax_f32_i32 x y u v reducesTo_S64x50x4096_S64x4096_d1 h_S_ j).2),
    reshape main_v0 main_v1 (rfl : (.i32 : EltTy) = .i32) shapeCasts_S64x4096_S262144,
    reshape main_arg1 main_v2 (rfl : (.i32 : EltTy) = .i32) shapeCasts_S64x4096_S262144 ]

/-- The operations that count them. -/
abbrev ops₂ : List (HloOp τ sig (Elt F)) :=
  [ binary main_v1 main_v2 main_v3 (cmpi .eq : (⟨S262144, .i32⟩ : BufTy).Contents (Elt F) → (⟨S262144, .i32⟩ : BufTy).Contents (Elt F) → (⟨S262144, .i1⟩ : BufTy).Contents (Elt F)),
    unary main_v3 main_v4 (uitofp .f32 : (⟨S262144, .i1⟩ : BufTy).Contents (Elt F) → (⟨S262144, .f32⟩ : BufTy).Contents (Elt F)),
    nullary main_cst (constant S_ .f32 0x00000000#32),
    unary main_cst main_v5 (broadcastInDim S50 ![] bcast_S_S50 : (⟨S_, .f32⟩ : BufTy).Contents (Elt F) → (⟨S50, .f32⟩ : BufTy).Contents (Elt F)),
    nullary main_c (constantI S_ 32 0#32),
    TRef.unary (.of main_c) main_call1.v0 id,
    TRef.unary main_call1.v0 main_call1.v1 (broadcastInDim S262144 ![] bcast_S_S262144),
    TRef.binary main_call1.v1 (.of main_v1) main_call1.v2 maxsi,
    nullary main_c_0 (constantI S_ 32 0#32),
    unary main_c_0 main_v7 (broadcastInDim S262144 ![] bcast_S_S262144 : (⟨S_, .i32⟩ : BufTy).Contents (Elt F) → (⟨S262144, .i32⟩ : BufTy).Contents (Elt F)),
    binary main_v6 main_v7 main_v8 (cmpi .slt : (⟨S262144, .i32⟩ : BufTy).Contents (Elt F) → (⟨S262144, .i32⟩ : BufTy).Contents (Elt F) → (⟨S262144, .i1⟩ : BufTy).Contents (Elt F)),
    nullary main_c_1 (constantI S_ 32 50#32),
    unary main_c_1 main_v9 (broadcastInDim S262144 ![] bcast_S_S262144 : (⟨S_, .i32⟩ : BufTy).Contents (Elt F) → (⟨S262144, .i32⟩ : BufTy).Contents (Elt F)),
    binary main_v6 main_v9 main_v10 (addi : (⟨S262144, .i32⟩ : BufTy).Contents (Elt F) → (⟨S262144, .i32⟩ : BufTy).Contents (Elt F) → (⟨S262144, .i32⟩ : BufTy).Contents (Elt F)),
    ternary main_v8 main_v10 main_v6 main_v11 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v11 main_v12 (broadcastInDim S262144x1 ![0] bcast_S262144_S262144x1_0 : (⟨S262144, .i32⟩ : BufTy).Contents (Elt F) → (⟨S262144x1, .i32⟩ : BufTy).Contents (Elt F)),
    ternary main_v5 main_v12 main_v4 main_v13 ((fun x i u => Host.scatterAdd scatter_S50_S262144x1_S262144_n_0_0_1 x i u) : (⟨S50, .f32⟩ : BufTy).Contents (Elt F) → (⟨S262144x1, .i32⟩ : BufTy).Contents (Elt F) → (⟨S262144, .f32⟩ : BufTy).Contents (Elt F) → (⟨S50, .f32⟩ : BufTy).Contents (Elt F)),
    nullary main_c_2 (constantI S_ 32 0#32),
    unary main_c_2 main_v14 (broadcastInDim S50 ![] bcast_S_S50 : (⟨S_, .i32⟩ : BufTy).Contents (Elt F) → (⟨S50, .i32⟩ : BufTy).Contents (Elt F)),
    nullary main_c_3 (constantI S_ 32 0#32),
    TRef.unary (.of main_c_3) main_call2.v0 id,
    TRef.unary main_call2.v0 main_call2.v1 (broadcastInDim S262144 ![] bcast_S_S262144),
    TRef.binary main_call2.v1 (.of main_v1) main_call2.v2 maxsi,
    nullary main_c_4 (constantI S_ 32 0#32),
    unary main_c_4 main_v16 (broadcastInDim S262144 ![] bcast_S_S262144 : (⟨S_, .i32⟩ : BufTy).Contents (Elt F) → (⟨S262144, .i32⟩ : BufTy).Contents (Elt F)),
    binary main_v15 main_v16 main_v17 (cmpi .slt : (⟨S262144, .i32⟩ : BufTy).Contents (Elt F) → (⟨S262144, .i32⟩ : BufTy).Contents (Elt F) → (⟨S262144, .i1⟩ : BufTy).Contents (Elt F)),
    nullary main_c_5 (constantI S_ 32 50#32),
    unary main_c_5 main_v18 (broadcastInDim S262144 ![] bcast_S_S262144 : (⟨S_, .i32⟩ : BufTy).Contents (Elt F) → (⟨S262144, .i32⟩ : BufTy).Contents (Elt F)),
    binary main_v15 main_v18 main_v19 (addi : (⟨S262144, .i32⟩ : BufTy).Contents (Elt F) → (⟨S262144, .i32⟩ : BufTy).Contents (Elt F) → (⟨S262144, .i32⟩ : BufTy).Contents (Elt F)),
    ternary main_v17 main_v19 main_v15 main_v20 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v20 main_v21 (broadcastInDim S262144x1 ![0] bcast_S262144_S262144x1_0 : (⟨S262144, .i32⟩ : BufTy).Contents (Elt F) → (⟨S262144x1, .i32⟩ : BufTy).Contents (Elt F)),
    nullary main_c_6 (constantI S_ 32 1#32),
    unary main_c_6 main_v22 (broadcastInDim S262144 ![] bcast_S_S262144 : (⟨S_, .i32⟩ : BufTy).Contents (Elt F) → (⟨S262144, .i32⟩ : BufTy).Contents (Elt F)),
    ternary main_v14 main_v21 main_v22 main_v23 ((fun x i u => Host.scatter scatter_S50_S262144x1_S262144_n_0_0_1 IntOp.addi x i u) : (⟨S50, .i32⟩ : BufTy).Contents (Elt F) → (⟨S262144x1, .i32⟩ : BufTy).Contents (Elt F) → (⟨S262144, .i32⟩ : BufTy).Contents (Elt F) → (⟨S50, .i32⟩ : BufTy).Contents (Elt F)),
    unary main_v23 main_v24 (sitofp .f32 : (⟨S50, .i32⟩ : BufTy).Contents (Elt F) → (⟨S50, .f32⟩ : BufTy).Contents (Elt F)),
    nullary main_c_7 (constantI S_ 32 0#32),
    unary main_c_7 main_v25 (broadcastInDim S50 ![] bcast_S_S50 : (⟨S_, .i32⟩ : BufTy).Contents (Elt F) → (⟨S50, .i32⟩ : BufTy).Contents (Elt F)),
    nullary main_c_8 (constantI S_ 32 0#32),
    TRef.unary (.of main_c_8) main_call3.v0 id,
    TRef.unary main_call3.v0 main_call3.v1 (broadcastInDim S262144 ![] bcast_S_S262144),
    TRef.binary main_call3.v1 (.of main_v2) main_call3.v2 maxsi,
    nullary main_c_9 (constantI S_ 32 0#32),
    unary main_c_9 main_v27 (broadcastInDim S262144 ![] bcast_S_S262144 : (⟨S_, .i32⟩ : BufTy).Contents (Elt F) → (⟨S262144, .i32⟩ : BufTy).Contents (Elt F)),
    binary main_v26 main_v27 main_v28 (cmpi .slt : (⟨S262144, .i32⟩ : BufTy).Contents (Elt F) → (⟨S262144, .i32⟩ : BufTy).Contents (Elt F) → (⟨S262144, .i1⟩ : BufTy).Contents (Elt F)),
    nullary main_c_10 (constantI S_ 32 50#32),
    unary main_c_10 main_v29 (broadcastInDim S262144 ![] bcast_S_S262144 : (⟨S_, .i32⟩ : BufTy).Contents (Elt F) → (⟨S262144, .i32⟩ : BufTy).Contents (Elt F)),
    binary main_v26 main_v29 main_v30 (addi : (⟨S262144, .i32⟩ : BufTy).Contents (Elt F) → (⟨S262144, .i32⟩ : BufTy).Contents (Elt F) → (⟨S262144, .i32⟩ : BufTy).Contents (Elt F)),
    ternary main_v28 main_v30 main_v26 main_v31 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v31 main_v32 (broadcastInDim S262144x1 ![0] bcast_S262144_S262144x1_0 : (⟨S262144, .i32⟩ : BufTy).Contents (Elt F) → (⟨S262144x1, .i32⟩ : BufTy).Contents (Elt F)),
    nullary main_c_11 (constantI S_ 32 1#32),
    unary main_c_11 main_v33 (broadcastInDim S262144 ![] bcast_S_S262144 : (⟨S_, .i32⟩ : BufTy).Contents (Elt F) → (⟨S262144, .i32⟩ : BufTy).Contents (Elt F)),
    ternary main_v25 main_v32 main_v33 main_v34 ((fun x i u => Host.scatter scatter_S50_S262144x1_S262144_n_0_0_1 IntOp.addi x i u) : (⟨S50, .i32⟩ : BufTy).Contents (Elt F) → (⟨S262144x1, .i32⟩ : BufTy).Contents (Elt F) → (⟨S262144, .i32⟩ : BufTy).Contents (Elt F) → (⟨S50, .i32⟩ : BufTy).Contents (Elt F)),
    unary main_v34 main_v35 (sitofp .f32 : (⟨S50, .i32⟩ : BufTy).Contents (Elt F) → (⟨S50, .f32⟩ : BufTy).Contents (Elt F)),
    binary main_v24 main_v35 main_v36 (addf : (⟨S50, .f32⟩ : BufTy).Contents (Elt F) → (⟨S50, .f32⟩ : BufTy).Contents (Elt F) → (⟨S50, .f32⟩ : BufTy).Contents (Elt F)),
    binary main_v36 main_v13 main_v37 (subf : (⟨S50, .f32⟩ : BufTy).Contents (Elt F) → (⟨S50, .f32⟩ : BufTy).Contents (Elt F) → (⟨S50, .f32⟩ : BufTy).Contents (Elt F)) ]

/-- The operations of @main, the called functions' in place. -/
abbrev ops : List (HloOp τ sig (Elt F)) := ops₁ ++ ops₂

set_option maxRecDepth 100000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, ops₁, ops₂, List.cons_append, List.nil_append, List.Forall, nullary_bufs_sub, unary_bufs_sub, binary_bufs_sub, ternary_bufs_sub, quaternary_bufs_sub, reshape_bufs_sub,
    TRef.nullary, TRef.unary, TRef.binary, TRef.quaternary, and_self]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The results as operations of the arguments -/

/-- Each pixel's class: the argument maximum of its fifty logits. -/
def predR (x : S64x50x4096.Idx → F .f32) : S64x4096.Idx → BitVec 32 := fun j =>
  (Host.argReduce reducer_argmax_f32_i32 x (iotaInDim S64x50x4096 32 1) (constant S_ .f32 0xFF800000#32) (constantI S_ 32 0#32)
    reducesTo_S64x50x4096_S64x4096_d1 h_S_ j).2

/-- The image as one row. -/
def flatR (y : S64x4096.Idx → BitVec 32) : S262144.Idx → BitVec 32 := shapeCast S262144 y shapeCasts_S64x4096_S262144

/-- Zero where a class is negative, the class elsewhere. -/
def clipR (v : S262144.Idx → BitVec 32) : S262144.Idx → BitVec 32 := maxsi (broadcastInDim S262144 ![] bcast_S_S262144 (constantI S_ 32 0#32)) v

/-- The bins a scatter adds to. -/
def binR (v : S262144.Idx → BitVec 32) : S262144x1.Idx → BitVec 32 :=
  broadcastInDim S262144x1 ![0] bcast_S262144_S262144x1_0
    (select (cmpi .slt (clipR v) (broadcastInDim S262144 ![] bcast_S_S262144 (constantI S_ 32 0#32)))
      (addi (clipR v) (broadcastInDim S262144 ![] bcast_S_S262144 (constantI S_ 32 50#32))) (clipR v))

/-- The matches per class. -/
def interR (v w : S262144.Idx → BitVec 32) : S50.Idx → F .f32 :=
  Host.scatterAdd scatter_S50_S262144x1_S262144_n_0_0_1 (broadcastInDim S50 ![] bcast_S_S50 (constant S_ .f32 0x00000000#32)) (binR v)
    (uitofp .f32 (cmpi .eq v w))

/-- The pixels per class. -/
def countR (v : S262144.Idx → BitVec 32) : S50.Idx → F .f32 :=
  sitofp .f32 (Host.scatter scatter_S50_S262144x1_S262144_n_0_0_1 IntOp.addi (broadcastInDim S50 ![] bcast_S_S50 (constantI S_ 32 0#32)) (binR v)
    (broadcastInDim S262144 ![] bcast_S_S262144 (constantI S_ 32 1#32)))

theorem after_ops (V : Valuation τ sig (Elt F)) : after ops V = after ops₂ (after ops₁ V) := rfl

theorem v0_eq (V : Valuation τ sig (Elt F)) : after (ops₁.take 5) V (main_v0 : DevRef τ sig) = predR (V (main_arg0 : DevRef τ sig)) := by
  simp only [ops₁, List.take_succ_cons, List.take_zero]
  after_results_simp
  simp only [TRef.ofBuf_toBuf, id]
  simp only [TRef.toBuf, TRef.ofBuf, cast_eq]
  unfold predR
  exact rfl

theorem row_eq (V : Valuation τ sig (Elt F)) : after (ops₁.drop 5) V (main_v1 : DevRef τ sig) = flatR (V (main_v0 : DevRef τ sig)) := by
  simp only [ops₁, List.drop_succ_cons, List.drop_zero]
  after_results_simp
  rfl

theorem v1_eq (V : Valuation τ sig (Elt F)) : after ops₁ V (main_v1 : DevRef τ sig) = flatR (predR (V (main_arg0 : DevRef τ sig))) := by
  rw [show after ops₁ V = after (ops₁.drop 5) (after (ops₁.take 5) V) from rfl, row_eq, v0_eq]

theorem v2_eq (V : Valuation τ sig (Elt F)) : after ops₁ V (main_v2 : DevRef τ sig) = flatR (V (main_arg1 : DevRef τ sig)) := by
  after_results_simp
  rfl

theorem inter_eq (V : Valuation τ sig (Elt F)) : after ops₂ V (main_v13 : DevRef τ sig)
    = interR (V (main_v1 : DevRef τ sig)) (V (main_v2 : DevRef τ sig)) := by
  after_results_simp
  simp only [TRef.ofBuf_toBuf, id]
  simp only [TRef.toBuf, TRef.ofBuf, cast_eq]
  unfold interR binR clipR
  rfl

theorem union_eq (V : Valuation τ sig (Elt F)) : after ops₂ V (main_v37 : DevRef τ sig)
    = subf (addf (countR (V (main_v1 : DevRef τ sig))) (countR (V (main_v2 : DevRef τ sig))))
      (interR (V (main_v1 : DevRef τ sig)) (V (main_v2 : DevRef τ sig))) := by
  after_results_simp
  simp only [TRef.ofBuf_toBuf, id]
  simp only [TRef.toBuf, TRef.ofBuf, cast_eq]
  unfold interR countR binR clipR
  rfl

theorem v13_eq (V : Valuation τ sig (Elt F)) : after ops V (main_v13 : DevRef τ sig)
    = interR (flatR (predR (V (main_arg0 : DevRef τ sig)))) (flatR (V (main_arg1 : DevRef τ sig))) := by
  rw [after_ops, inter_eq, v1_eq, v2_eq]

theorem v37_eq (V : Valuation τ sig (Elt F)) : after ops V (main_v37 : DevRef τ sig)
    = subf (addf (countR (flatR (predR (V (main_arg0 : DevRef τ sig))))) (countR (flatR (V (main_arg1 : DevRef τ sig)))))
      (interR (flatR (predR (V (main_arg0 : DevRef τ sig)))) (flatR (V (main_arg1 : DevRef τ sig)))) := by
  rw [after_ops, union_eq, v1_eq, v2_eq]

theorem arg0_eq (V : Valuation τ sig (Elt F)) : after ops V (main_arg0 : DevRef τ sig) = V (main_arg0 : DevRef τ sig) := by
  rw [after_ops]
  after_results_simp

theorem arg1_eq (V : Valuation τ sig (Elt F)) : after ops V (main_arg1 : DevRef τ sig) = V (main_arg1 : DevRef τ sig) := by
  rw [after_ops]
  after_results_simp

/-- `Cert.quiescent_ReferenceIdeal`: the run read at its arguments; the program has no semaphore. -/
theorem frame_reference : Cert.quiescent_ReferenceIdeal := by
  intro m ρ _
  exact (θ_run (Cert.ReferenceIdeal.defs (F := Ideal)) _ _).mono (fun r h =>
    ⟨fun c => ⟨(h c main_arg0).trans (arg0_eq _), (h c main_arg1).trans (arg1_eq _)⟩,
      sem_eq_zero_of_no_sems (by decide) r.2⟩)
    (run_main (F := Ideal) m ρ)

end Cert.Proof.Ref

end
-- ==== Proof.Best.lean ====
module

public import proofs.«01_k».proof.Proof.Region
public import proofs.«01_k».proof.Proof.RefRun

/-!
  The reference's argument maximum over ideal values: folding its body over the fifty logits of a pixel, in any order, keeps the
  first class of the largest logit, which is where the kernel's scan ends.
-/

@[expose] public section

noncomputable section

namespace Cert.Proof.Val

open Idealize.ShloMosaic
open Cert.Proof.Argmax (amaxAt)

/-- A pair of a logit and its class. -/
abbrev Pr : Type := Ideal .f32 × BitVec 32

/-- The body keeps its first pair where that is larger, or as large and of an earlier class. -/
theorem body_eq (a b : Pr) : Cert.ReferenceIdeal.reducer_argmax_f32_i32 (F := Ideal) a b
    = if (b.1 : EReal) < a.1 ∨ ((a.1 : EReal) = b.1 ∧ a.2.toInt < b.2.toInt) then a else b := by
  obtain ⟨a1, a2⟩ := a
  obtain ⟨b1, b2⟩ := b
  have e1 : FloatOps.cmpf .ogt a1 b1 = BitVec.ofBool (decide ((b1 : EReal) < a1)) := rfl
  have e2 : FloatOps.cmpf .une a1 a1 = 0#1 := by
    show BitVec.ofBool (decide ((a1 : EReal) ≠ a1)) = 0#1
    rw [decide_eq_false (fun h => h rfl)]
    rfl
  have e3 : FloatOps.cmpf .oeq a1 b1 = BitVec.ofBool (decide ((a1 : EReal) = b1)) := rfl
  have e4 : IntOp.cmpi .slt a2 b2 = BitVec.ofBool (decide (a2.toInt < b2.toInt)) := rfl
  unfold Cert.ReferenceIdeal.reducer_argmax_f32_i32
  simp only [e1, e2, e3, e4]
  by_cases h1 : (b1 : EReal) < a1
  · have h2 : ¬ (a1 : EReal) = b1 := fun e => absurd h1 (by rw [e]; exact lt_irrefl _)
    simp [h1, h2, Scalar.select, IntOp.ori, IntOp.andi]
  · by_cases h2 : (a1 : EReal) = b1
    · by_cases h3 : a2.toInt < b2.toInt
      · simp [h2, h3, Scalar.select, IntOp.ori, IntOp.andi]
      · simp [h2, h3, Scalar.select, IntOp.ori, IntOp.andi]
    · simp [h1, h2, Scalar.select, IntOp.ori, IntOp.andi]

/-- `r` is at least as good as `p`. -/
def Beats (r p : Pr) : Prop := (p.1 : EReal) < r.1 ∨ ((p.1 : EReal) = r.1 ∧ r.2.toInt ≤ p.2.toInt)

theorem Beats.refl (r : Pr) : Beats r r := Or.inr ⟨rfl, le_rfl⟩

theorem Beats.trans {r p q : Pr} (h : Beats r p) (h' : Beats p q) : Beats r q := by
  rcases h with h | ⟨h, k⟩ <;> rcases h' with h' | ⟨h', k'⟩
  · exact Or.inl (lt_trans h' h)
  · exact Or.inl (h' ▸ h)
  · exact Or.inl (h ▸ h')
  · exact Or.inr ⟨h'.trans h, k.trans k'⟩

theorem body_beats (a b : Pr) : Beats (Cert.ReferenceIdeal.reducer_argmax_f32_i32 (F := Ideal) a b) a
    ∧ Beats (Cert.ReferenceIdeal.reducer_argmax_f32_i32 (F := Ideal) a b) b
    ∧ (Cert.ReferenceIdeal.reducer_argmax_f32_i32 (F := Ideal) a b = a ∨ Cert.ReferenceIdeal.reducer_argmax_f32_i32 (F := Ideal) a b = b) := by
  rw [body_eq]
  split
  · next h =>
    refine ⟨Beats.refl a, ?_, Or.inl rfl⟩
    rcases h with h | ⟨h, k⟩
    · exact Or.inl h
    · exact Or.inr ⟨h.symm, k.le⟩
  · next h =>
    refine ⟨?_, Beats.refl b, Or.inr rfl⟩
    rcases lt_trichotomy (a.1 : EReal) b.1 with k | k | k
    · exact Or.inl k
    · exact Or.inr ⟨k, le_of_not_gt fun k' => h (Or.inr ⟨k, k'⟩)⟩
    · exact absurd (Or.inl k) h

/-- The fold's result is one of the pairs, and at least as good as each. -/
theorem fold_best (l : List Pr) (a : Pr) :
    (l.foldl (Cert.ReferenceIdeal.reducer_argmax_f32_i32 (F := Ideal)) a = a ∨ l.foldl (Cert.ReferenceIdeal.reducer_argmax_f32_i32 (F := Ideal)) a ∈ l)
    ∧ Beats (l.foldl (Cert.ReferenceIdeal.reducer_argmax_f32_i32 (F := Ideal)) a) a
    ∧ ∀ p ∈ l, Beats (l.foldl (Cert.ReferenceIdeal.reducer_argmax_f32_i32 (F := Ideal)) a) p := by
  induction l generalizing a with
  | nil => exact ⟨Or.inl rfl, Beats.refl a, fun p hp => absurd hp List.not_mem_nil⟩
  | cons q l ih =>
    obtain ⟨ha, hq, hor⟩ := body_beats a q
    obtain ⟨h1, h2, h3⟩ := ih (Cert.ReferenceIdeal.reducer_argmax_f32_i32 (F := Ideal) a q)
    rw [List.foldl_cons]
    refine ⟨?_, h2.trans ha, fun p hp => ?_⟩
    · rcases h1 with h1 | h1
      · rw [h1]
        rcases hor with h | h
        · exact Or.inl h
        · exact Or.inr (by rw [h]; exact List.mem_cons_self)
      · exact Or.inr (List.mem_cons_of_mem _ h1)
    · rcases List.mem_cons.mp hp with rfl | hp
      · exact h2.trans hq
      · exact h3 p hp

/-- The kernel's scan ends at the first class of the largest logit. -/
theorem scan_spec (g : ℕ → Ideal .f32) (n : ℕ) : ∃ i ≤ n, amaxAt g n = (g i, BitVec.ofNat 32 i)
    ∧ (∀ k ≤ n, (g k : EReal) ≤ g i) ∧ ∀ k < i, (g k : EReal) < g i := by
  induction n with
  | zero => exact ⟨0, le_rfl, rfl, fun k hk => by rw [Nat.le_zero.mp hk], fun k hk => absurd hk (Nat.not_lt_zero k)⟩
  | succ n ih =>
    obtain ⟨i, hi, he, hmax, hlt⟩ := ih
    have hc : FloatOps.cmpf .ogt (g (n + 1)) (g i) = BitVec.ofBool (decide ((g i : EReal) < g (n + 1))) := rfl
    by_cases h : (g i : EReal) < g (n + 1)
    · refine ⟨n + 1, le_rfl, ?_, fun k hk => ?_, fun k hk => lt_of_le_of_lt (hmax k (by omega)) h⟩
      · simp only [amaxAt, he, hc, decide_eq_true h, Scalar.select]
        rfl
      · rcases Nat.lt_or_ge n k with h' | h'
        · rw [show k = n + 1 by omega]
        · exact (hmax k h').trans h.le
    · refine ⟨i, by omega, ?_, fun k hk => ?_, hlt⟩
      · simp only [amaxAt, he, hc, decide_eq_false h, Scalar.select]
        rfl
      · rcases Nat.lt_or_ge n k with h' | h'
        · rw [show k = n + 1 by omega]; exact le_of_not_gt h
        · exact hmax k h'

theorem toInt_class (i : ℕ) (h : i < 50) : (BitVec.ofNat 32 i).toInt = (i : ℤ) := by
  rw [BitVec.toInt_ofNat', Int.bmod_eq_of_le (by omega) (by omega)]

/-- Any fold over the pairs of fifty logits, from the least value and class zero, ends where the scan does. -/
theorem fold_eq_scan (g : ℕ → Ideal .f32) (l : List Pr) (hl : ∀ p, p ∈ l ↔ ∃ i < 50, p = (g i, BitVec.ofNat 32 i)) :
    (l.foldl (Cert.ReferenceIdeal.reducer_argmax_f32_i32 (F := Ideal)) ((⊥ : EReal), 0#32)).2 = (amaxAt g 49).2 := by
  obtain ⟨i, hi, he, hmax, hlt⟩ := scan_spec g 49
  obtain ⟨h1, h2, h3⟩ := fold_best l ((⊥ : EReal), 0#32)
  have hb := h3 _ ((hl _).mpr ⟨i, by omega, rfl⟩)
  rw [he]
  rcases h1 with h1 | h1
  · rw [h1] at hb ⊢
    show 0#32 = BitVec.ofNat 32 i
    rcases hb with hb | ⟨hb, -⟩
    · exact absurd hb not_lt_bot
    · rcases Nat.eq_zero_or_pos i with rfl | hp
      · rfl
      · have := hlt 0 hp
        change (g i : EReal) = ⊥ at hb
        rw [hb] at this
        exact absurd this not_lt_bot
  · obtain ⟨k, hk, e⟩ := (hl _).mp h1
    rw [e] at hb ⊢
    show BitVec.ofNat 32 k = BitVec.ofNat 32 i
    rcases hb with hb | ⟨hb, hle⟩
    · exact absurd hb (not_lt_of_ge (hmax k (by omega)))
    · change (BitVec.ofNat 32 k).toInt ≤ (BitVec.ofNat 32 i).toInt at hle
      rw [toInt_class k hk, toInt_class i (by omega)] at hle
      change (g i : EReal) = g k at hb
      rcases Nat.lt_or_ge k i with h | h
      · exact absurd (hlt k h) (by rw [hb]; exact lt_irrefl _)
      · rw [show k = i by omega]

end Cert.Proof.Val

end
-- ==== Proof.Pred.lean ====
module

public import proofs.«01_k».proof.Proof.Best
public import Idealize.ShloMosaic.PureOps.Ideal.Laws
public import Idealize.ShloMosaic.PureOps.Reduce
public import Idealize.ShloMosaic.Lib.Pointwise.Reduce

/-!
  The reference's predicted classes are the kernel's.
-/

@[expose] public section

noncomputable section

namespace Cert.Proof.Val

open Cert.ReferenceIdeal
open Idealize.ShloMosaic
open Cert.Proof.Argmax (amaxAt)

/-- A position of the pixel-major logits, from a class and a pixel. -/
def at50 (k : Fin 50) (j : S64x4096.Idx) : S64x50x4096.Idx := fun
  | ⟨0, _⟩ => (⟨(j 0).val, (j 0).isLt⟩ : Fin 64)
  | ⟨1, _⟩ => (⟨k.val, k.isLt⟩ : Fin 50)
  | ⟨2, _⟩ => (⟨(j 1).val, (j 1).isLt⟩ : Fin 4096)

theorem drop_iff {axes : List (Fin S64x50x4096.rank)} (ha : axes = [1]) (h : S64x50x4096.ReducesTo axes S64x4096) (j : S64x4096.Idx) (i : S64x50x4096.Idx) :
    h.drop i = j ↔ ∃ k : Fin 50, at50 k j = i := by
  subst ha
  constructor
  · rintro rfl
    refine ⟨⟨(i 1).val, (i 1).isLt⟩, ?_⟩
    funext a
    match a with
    | ⟨0, _⟩ => rfl
    | ⟨1, _⟩ => rfl
    | ⟨2, _⟩ => rfl
  · rintro ⟨k, rfl⟩
    funext b
    match b with
    | ⟨0, _⟩ => rfl
    | ⟨1, _⟩ => rfl

/-- The pairs of a pixel: its fifty logits with their classes. -/
theorem mem_pixel {axes : List (Fin S64x50x4096.rank)} (ha : axes = [1]) (h : S64x50x4096.ReducesTo axes S64x4096) (x : S64x50x4096.Idx → Ideal .f32) (y : S64x50x4096.Idx → BitVec 32)
    (hy : ∀ i, y i = BitVec.ofNat 32 (i 1).val) (j : S64x4096.Idx) (g : ℕ → Ideal .f32) (hg : ∀ k : Fin 50, g k.val = x (at50 k j)) (p : Pr) :
    p ∈ Host.argReduceFiber x y h j ↔ ∃ i < 50, p = (g i, BitVec.ofNat 32 i) := by
  unfold Host.argReduceFiber
  rw [List.mem_map]
  constructor
  · rintro ⟨n, hn, rfl⟩
    obtain ⟨k, hk⟩ := (drop_iff ha h j _).mp (of_decide_eq_true (List.mem_filter.mp hn).2)
    refine ⟨k.val, k.isLt, ?_⟩
    rw [hg k, hy, ← hk]
    rfl
  · rintro ⟨i, hi, rfl⟩
    refine ⟨S64x50x4096.rowMajor (at50 ⟨i, hi⟩ j), List.mem_filter.mpr ⟨List.mem_finRange _, decide_eq_true ?_⟩, ?_⟩
    · rw [Equiv.symm_apply_apply]
      exact (drop_iff ha h j _).mpr ⟨⟨i, hi⟩, rfl⟩
    · rw [Equiv.symm_apply_apply, hy, ← hg ⟨i, hi⟩]
      rfl

/-- The argument maximum over any such pairs, from the least value and class zero. -/
theorem argmax_eq {axes : List (Fin S64x50x4096.rank)} (ha : axes = [1]) (h : S64x50x4096.ReducesTo axes S64x4096) (x : S64x50x4096.Idx → Ideal .f32) (y : S64x50x4096.Idx → BitVec 32)
    (hy : ∀ i, y i = BitVec.ofNat 32 (i 1).val) (ix : S_.Idx → Ideal .f32) (iy : S_.Idx → BitVec 32) (hix : ∀ i, ix i = (⊥ : EReal)) (hiy : ∀ i, iy i = 0#32)
    (hu : 0 < S_.numel) (j : S64x4096.Idx) (g : ℕ → Ideal .f32) (hg : ∀ k : Fin 50, g k.val = x (at50 k j)) :
    (Host.argReduce (reducer_argmax_f32_i32 (F := Ideal)) x y ix iy h hu j).2 = (amaxAt g 49).2 := by
  rw [Idealize.ShloMosaic.Ideal.argReduce_eq_reduce2, Host.reduce2_eq_foldl_fiber, hix, hiy]
  exact fold_eq_scan g _ (mem_pixel ha h x y hy j g hg)

theorem least_eq : (Scalar.ofBits .f32 0xFF800000#32 : Ideal .f32) = (⊥ : EReal) := by
  show Ideal.ofBits .f32 0xFF800000#32 = ⊥
  simp [Ideal.ofBits, Ideal.ieee]

theorem init_eq (i : S_.Idx) : (constant S_ .f32 0xFF800000#32 : S_.Idx → Ideal .f32) i = (⊥ : EReal) := least_eq

theorem predOf_at (X : Cert.KernelIdeal.S50x64x4096.Idx → Ideal .f32) (j : Cert.KernelIdeal.S64x4096.Idx) :
    Seg.predOf X j = (amaxAt (fun c => X (Seg.at64 c j)) 49).2 := rfl

theorem predR_fun : @Ref.predR Ideal _ = fun x j => (Host.argReduce (reducer_argmax_f32_i32 (F := Ideal)) x (iotaInDim S64x50x4096 32 1)
    (constant S_ .f32 0xFF800000#32) (constantI S_ 32 0#32) Gen.reducesTo_S64x50x4096_S64x4096_d1 Gen.h_S_ j).2 := rfl

/-- The reference's classes are the kernel's, where the kernel's logits are the reference's. -/
theorem pred_eq (x : S64x50x4096.Idx → Ideal .f32) (X : Cert.KernelIdeal.S50x64x4096.Idx → Ideal .f32)
    (hX : ∀ (k : Fin 50) (j : S64x4096.Idx), X (Seg.at64 k.val j) = x (at50 k j)) : Ref.predR x = Seg.predOf X := by
  rw [predR_fun]
  funext j
  exact (argmax_eq rfl _ x _ (fun _ => rfl) _ _ init_eq (fun _ => rfl) _ j (fun c => X (Seg.at64 c j)) fun k => hX k j).trans (predOf_at X j).symm

end Cert.Proof.Val

end
-- ==== Proof.Count.lean ====
module

public import proofs.«01_k».proof.Proof.Rows
public import Idealize.ShloMosaic.Lib.IdealHost

/-!
  The histogram over ideal values in closed form. A cell of the lower half holds 8192 times the matches plus the predictions
  of its lane and class, one of the upper half the labels; the decoded sums over the lanes are the counts themselves.
-/

@[expose] public section

noncomputable section

namespace Cert.Proof.Val

open Cert.KernelIdeal Cert.KernelIdeal.Gen
open Idealize.ShloMosaic
open Cert.Proof.Seg

/-! ## Two constants, and a sum of casts -/

theorem wOne_eq : (wOne : Ideal .f32) = (1 : EReal) := by
  show Ideal.ofBits .f32 0x3F800000#32 = 1
  rw [show (1 : EReal) = ((1 : ℝ) : EReal) by norm_cast]
  simp [Ideal.ofBits, Ideal.ieee, -EReal.coe_mul]
  norm_num

theorem wHit_eq : (wHit : Ideal .f32) = ((8193 : ℕ) : EReal) := by
  show Ideal.ofBits .f32 0x46000400#32 = _
  rw [← EReal.coe_coe_eq_natCast]
  simp [Ideal.ofBits, Ideal.ieee, -EReal.coe_mul]
  norm_num

theorem zero_eq : (Scalar.ofBits .f32 0x00000000#32 : Ideal .f32) = (0 : EReal) := Ideal.ofBits_zero_f32

theorem cast_add (a b : ℕ) : ((a + b : ℕ) : EReal) = (a : EReal) + (b : EReal) := Nat.cast_add a b

/-! ## The cells -/

/-- The matches of lane `k` at class `b` in the first `n` steps. -/
def hitN (P L : S2x4096.Idx → BitVec 32) (k : Fin 16) (b n : ℕ) : ℕ :=
  ∑ m ∈ Finset.range n, if (rowAt P m (ln k)).toNat = b ∧ rowAt P m (ln k) = rowAt L m (ln k) then 1 else 0

/-- The values of lane `k` that are class `b` in the first `n` steps. -/
def cntN (P : S2x4096.Idx → BitVec 32) (k : Fin 16) (b n : ℕ) : ℕ :=
  ∑ m ∈ Finset.range n, if (rowAt P m (ln k)).toNat = b then 1 else 0

theorem hitN_le (P L : S2x4096.Idx → BitVec 32) (k : Fin 16) (b n : ℕ) : hitN P L k b n ≤ n := by
  refine (Finset.sum_le_card_nsmul _ _ 1 fun m _ => by split <;> omega).trans ?_
  simp

theorem cntN_le (P : S2x4096.Idx → BitVec 32) (k : Fin 16) (b n : ℕ) : cntN P k b n ≤ n := by
  refine (Finset.sum_le_card_nsmul _ _ 1 fun m _ => by split <;> omega).trans ?_
  simp

theorem hist_lo (P L : S2x4096.Idx → BitVec 32) (n : ℕ) (j : S2048.Idx) (hj : (j 0).val < 1024) :
    (hist P L n j : Ideal .f32) = ((8192 * hitN P L (laneOf j) ((j 0).val % 64) n + cntN P (laneOf j) ((j 0).val % 64) n : ℕ) : EReal) := by
  induction n with
  | zero =>
    rw [show hitN P L (laneOf j) ((j 0).val % 64) 0 = 0 from rfl, show cntN P (laneOf j) ((j 0).val % 64) 0 = 0 from rfl]
    exact zero_eq.trans Nat.cast_zero.symm
  | succ n ih =>
    have eH : hitN P L (laneOf j) ((j 0).val % 64) (n + 1) = hitN P L (laneOf j) ((j 0).val % 64) n + _ := Finset.sum_range_succ _ _
    have eC : cntN P (laneOf j) ((j 0).val % 64) (n + 1) = cntN P (laneOf j) ((j 0).val % 64) n + _ := Finset.sum_range_succ _ _
    rw [eH, eC]
    show hstep (rowAt P n) (rowAt L n) (hist P L n) j = _
    unfold hstep
    rw [if_pos hj]
    by_cases h : (rowAt P n (ln (laneOf j))).toNat = (j 0).val % 64
    · rw [if_pos h, Ideal.idxAddf_def, ih]
      by_cases h' : rowAt P n (ln (laneOf j)) = rowAt L n (ln (laneOf j))
      · rw [if_pos h', if_pos ⟨h, h'⟩, if_pos h, wHit_eq, ← cast_add]
        congr 1
        omega
      · rw [if_neg h', if_neg (fun c => h' c.2), if_pos h, wOne_eq, ← Nat.cast_one, ← cast_add]
        congr 1
    · rw [if_neg h, if_neg (fun c => h c.1), if_neg h, ih]
      rfl

theorem hist_hi (P L : S2x4096.Idx → BitVec 32) (n : ℕ) (j : S2048.Idx) (hj : ¬ (j 0).val < 1024) :
    (hist P L n j : Ideal .f32) = ((cntN L (laneOf j) ((j 0).val % 64) n : ℕ) : EReal) := by
  induction n with
  | zero =>
    rw [show cntN L (laneOf j) ((j 0).val % 64) 0 = 0 from rfl]
    exact zero_eq.trans Nat.cast_zero.symm
  | succ n ih =>
    have eC : cntN L (laneOf j) ((j 0).val % 64) (n + 1) = cntN L (laneOf j) ((j 0).val % 64) n + _ := Finset.sum_range_succ _ _
    rw [eC]
    show hstep (rowAt P n) (rowAt L n) (hist P L n) j = _
    unfold hstep
    rw [if_neg hj]
    by_cases h : (rowAt L n (ln (laneOf j))).toNat = (j 0).val % 64
    · rw [if_pos h, Ideal.idxAddf_def, ih, if_pos h, wOne_eq, ← Nat.cast_one, ← cast_add]
    · rw [if_neg h, if_neg h, ih]
      rfl

/-! ## Decoding -/

/-- A small natural number converted to an integer. -/
theorem fptosi_nat (n : ℕ) (h : n < 2 ^ 31) : Ideal.fptosi 32 ((n : ℕ) : EReal) = BitVec.ofNat 32 n := by
  rw [← EReal.coe_coe_eq_natCast, Ideal.fptosi, Ideal.toIntClamped_coe, if_pos (Nat.cast_nonneg n), Int.floor_natCast]
  rw [min_eq_right (by norm_num; omega), max_eq_right (by norm_num)]
  exact BitVec.ofInt_natCast 32 n

theorem shr_eq (i c : ℕ) (hi : i ≤ 512) (hc : c ≤ 512) :
    Scalar.shrsi (BitVec.ofNat 32 (8192 * i + c)) 13#32 = BitVec.ofNat 32 i := by
  have hm : (BitVec.ofNat 32 (8192 * i + c)).msb = false := by
    rw [BitVec.msb_eq_false_iff_two_mul_lt, BitVec.toNat_ofNat, Nat.mod_eq_of_lt (by omega)]
    omega
  unfold Scalar.shrsi IntOp.shrsi
  rw [if_pos (by decide)]
  show (BitVec.ofNat 32 (8192 * i + c)).sshiftRight 13 = _
  rw [BitVec.sshiftRight_eq_of_msb_false hm]
  apply BitVec.eq_of_toNat_eq
  rw [BitVec.toNat_ushiftRight, BitVec.toNat_ofNat, BitVec.toNat_ofNat, Nat.shiftRight_eq_div_pow, Nat.mod_eq_of_lt (by omega),
    Nat.mod_eq_of_lt (by omega)]
  omega

theorem and_eq (i c : ℕ) (hi : i ≤ 512) (hc : c ≤ 512) :
    Scalar.andi (BitVec.ofNat 32 (8192 * i + c)) 8191#32 = BitVec.ofNat 32 c := by
  apply BitVec.eq_of_toNat_eq
  show (BitVec.ofNat 32 (8192 * i + c) &&& 8191#32).toNat = _
  rw [BitVec.toNat_and, show (8191#32).toNat = 2 ^ 13 - 1 from rfl, Nat.and_two_pow_sub_one_eq_mod, BitVec.toNat_ofNat, BitVec.toNat_ofNat,
    Nat.mod_eq_of_lt (a := 8192 * i + c) (by omega), Nat.mod_eq_of_lt (a := c) (by omega)]
  omega

theorem sitofp_nat (n : ℕ) (h : n < 2 ^ 31) : (Scalar.sitofp .f32 (BitVec.ofNat 32 n) : Ideal .f32) = ((n : ℕ) : EReal) := by
  rw [Ideal.scalar_sitofp_def, BitVec.toInt_ofNat', Int.bmod_eq_of_le (by omega) (by omega)]
  rw [← EReal.coe_coe_eq_natCast, Int.cast_natCast]

/-! ## The row of a tile -/

/-- A cell of the histogram. -/
def cellH (n : ℕ) : S2048.Idx := fun | ⟨0, _⟩ => (⟨n % 2048, Nat.mod_lt _ (by decide)⟩ : Fin 2048)

theorem ldc_apply (h : S2048.Idx → Ideal .f32) (n : ℕ) (hn : n < 2033) (k : Fin 16) : ldc h n (ln k) = h (cellH (n + k.val)) := by
  have hk := k.isLt
  show h _ = _
  refine congrArg h (funext fun a => Fin.ext ?_)
  match a with
  | ⟨0, _⟩ =>
    show n % 2033 + 1 * k.val = (n + k.val) % 2048
    omega

/-- A lane from its number. -/
abbrev lane (t : ℕ) : Fin 16 := ⟨t % 16, Nat.mod_lt _ (by decide)⟩

theorem laneOf_lo (t q k : ℕ) (ht : t < 16) (hq : q < 4) (hk : k < 16) : laneOf (cellH (t * 64 + 16 * q + k)) = lane t := by
  apply Fin.ext
  show (t * 64 + 16 * q + k) % 2048 % 1024 / 64 = t % 16
  omega

theorem laneOf_hi (t q k : ℕ) (ht : t < 16) (hq : q < 4) (hk : k < 16) : laneOf (cellH (1024 + t * 64 + 16 * q + k)) = lane t := by
  apply Fin.ext
  show (1024 + t * 64 + 16 * q + k) % 2048 % 1024 / 64 = t % 16
  omega

variable (P L : S2x4096.Idx → BitVec 32)

theorem lo_val (t q : ℕ) (ht : t < 16) (hq : q < 4) (k : Fin 16) : (ldc (hist P L 512) (t * 64 + 16 * q) (ln k) : Ideal .f32)
    = ((8192 * hitN P L (lane t) (16 * q + k.val) 512 + cntN P (lane t) (16 * q + k.val) 512 : ℕ) : EReal) := by
  have hk := k.isLt
  rw [ldc_apply _ _ (by omega), hist_lo _ _ _ _ (by show (t * 64 + 16 * q + k.val) % 2048 < 1024; omega), laneOf_lo t q k.val ht hq hk]
  rw [show ((cellH (t * 64 + 16 * q + k.val)) 0).val % 64 = 16 * q + k.val from by
    show (t * 64 + 16 * q + k.val) % 2048 % 64 = _; omega]

theorem hi_val (t q : ℕ) (ht : t < 16) (hq : q < 4) (k : Fin 16) : (ldc (hist P L 512) (1024 + t * 64 + 16 * q) (ln k) : Ideal .f32)
    = ((cntN L (lane t) (16 * q + k.val) 512 : ℕ) : EReal) := by
  have hk := k.isLt
  rw [ldc_apply _ _ (by omega), hist_hi _ _ _ _ (by show ¬ (1024 + t * 64 + 16 * q + k.val) % 2048 < 1024; omega), laneOf_hi t q k.val ht hq hk]
  rw [show ((cellH (1024 + t * 64 + 16 * q + k.val)) 0).val % 64 = 16 * q + k.val from by
    show (1024 + t * 64 + 16 * q + k.val) % 2048 % 64 = _; omega]

theorem hitV_succ (h : S2048.Idx → Ideal .f32) (q t : ℕ) (x : S16.Idx) : (hitV h q (t + 1) x : EReal)
    = (hitV h q t x : EReal) + Scalar.sitofp (F := Ideal) .f32 (Scalar.shrsi (Ideal.fptosi 32 (ldc h (t * 64 + 16 * q) x)) 13#32) := rfl

theorem cntV_succ (h : S2048.Idx → Ideal .f32) (q t : ℕ) (x : S16.Idx) : (cntV h q (t + 1) x : EReal)
    = (cntV h q t x : EReal) + Scalar.sitofp (F := Ideal) .f32 (Scalar.andi (Ideal.fptosi 32 (ldc h (t * 64 + 16 * q) x)) 8191#32) := rfl

theorem labV_succ (h : S2048.Idx → Ideal .f32) (q t : ℕ) (x : S16.Idx) : (labV h q (t + 1) x : EReal)
    = (labV h q t x : EReal) + (ldc h (1024 + t * 64 + 16 * q) x : EReal) := rfl

theorem hitV_eq (q T : ℕ) (hq : q < 4) (hT : T ≤ 16) (k : Fin 16) : (hitV (hist P L 512) q T (ln k) : Ideal .f32)
    = ((∑ t ∈ Finset.range T, hitN P L (lane t) (16 * q + k.val) 512 : ℕ) : EReal) := by
  induction T with
  | zero => exact zero_eq.trans Nat.cast_zero.symm
  | succ t ih =>
    have hi := hitN_le P L (lane t) (16 * q + k.val) 512
    have hc := cntN_le P (lane t) (16 * q + k.val) 512
    rw [Finset.sum_range_succ, cast_add, ← ih (by omega)]
    rw [hitV_succ, lo_val P L t q (by omega) hq k, fptosi_nat _ (by omega), shr_eq _ _ hi hc, sitofp_nat _ (by omega)]

theorem cntV_eq (q T : ℕ) (hq : q < 4) (hT : T ≤ 16) (k : Fin 16) : (cntV (hist P L 512) q T (ln k) : Ideal .f32)
    = ((∑ t ∈ Finset.range T, cntN P (lane t) (16 * q + k.val) 512 : ℕ) : EReal) := by
  induction T with
  | zero => exact zero_eq.trans Nat.cast_zero.symm
  | succ t ih =>
    have hi := hitN_le P L (lane t) (16 * q + k.val) 512
    have hc := cntN_le P (lane t) (16 * q + k.val) 512
    rw [Finset.sum_range_succ, cast_add, ← ih (by omega)]
    rw [cntV_succ, lo_val P L t q (by omega) hq k, fptosi_nat _ (by omega), and_eq _ _ hi hc, sitofp_nat _ (by omega)]

theorem labV_eq (q T : ℕ) (hq : q < 4) (hT : T ≤ 16) (k : Fin 16) : (labV (hist P L 512) q T (ln k) : Ideal .f32)
    = ((∑ t ∈ Finset.range T, cntN L (lane t) (16 * q + k.val) 512 : ℕ) : EReal) := by
  induction T with
  | zero => exact zero_eq.trans Nat.cast_zero.symm
  | succ t ih =>
    rw [Finset.sum_range_succ, cast_add, ← ih (by omega), ← hi_val P L t q (by omega) hq k, labV_succ]

/-- The row of partial results, at the three parts of a class. -/
theorem partRow_eq (b : ℕ) (hb : b < 64) :
    (partRow (hist P L 512) (cell192 b) : Ideal .f32) = ((∑ t ∈ Finset.range 16, hitN P L (lane t) b 512 : ℕ) : EReal)
    ∧ (partRow (hist P L 512) (cell192 (64 + b)) : Ideal .f32) = ((∑ t ∈ Finset.range 16, cntN P (lane t) b 512 : ℕ) : EReal)
    ∧ (partRow (hist P L 512) (cell192 (128 + b)) : Ideal .f32) = ((∑ t ∈ Finset.range 16, cntN L (lane t) b 512 : ℕ) : EReal) := by
  have e : ∀ o, o + b < 192 → ((cell192 (o + b)) 0).val = o + b := fun o ho => Nat.mod_eq_of_lt ho
  have hq : b / 16 < 4 := by omega
  have hs : ∀ h : b % 16 < 16, 16 * (b / 16) + (⟨b % 16, h⟩ : Fin 16).val = b := fun _ => by show 16 * (b / 16) + b % 16 = b; omega
  refine ⟨?_, ?_, ?_⟩
  · have e0 := e 0 (by omega)
    rw [Nat.zero_add] at e0
    unfold partRow
    simp only [e0]
    rw [if_pos hb, Nat.mod_eq_of_lt hb, hitV_eq P L _ 16 hq le_rfl, hs]
  · have e0 := e 64 (by omega)
    unfold partRow
    simp only [e0]
    rw [if_neg (by omega), if_pos (by omega), show (64 + b) % 64 / 16 = b / 16 by omega, cntV_eq P L _ 16 hq le_rfl,
      show 16 * (b / 16) + (64 + b) % 16 = b by omega]
  · have e0 := e 128 (by omega)
    unfold partRow
    simp only [e0]
    rw [if_neg (by omega), if_neg (by omega), show (128 + b) % 64 / 16 = b / 16 by omega, labV_eq P L _ 16 hq le_rfl,
      show 16 * (b / 16) + (128 + b) % 16 = b by omega]

end Cert.Proof.Val

end
-- ==== Proof.Total.lean ====
module

public import proofs.«01_k».proof.Proof.Count
public import proofs.«01_k».proof.Proof.Launch
public import Idealize.ShloMosaic.Lib.Pointwise.Reduce

/-!
  The kernel's two results over ideal values as counts over the whole image: the tiles' partial results, summed, count each
  pixel once.
-/

@[expose] public section

noncomputable section

namespace Cert.Proof.Val

open Cert.KernelIdeal Cert.KernelIdeal.Gen
open Idealize.ShloMosaic
open Cert.Proof.Seg hiding ix2

/-- The pixel at a place of the image read row by row. -/
def pix (n : ℕ) : S64x4096.Idx := img (n / 4096) (n % 4096)

/-- The pixels of class `b` in an image. -/
def cntT (A : S64x4096.Idx → BitVec 32) (b : ℕ) : ℕ := ∑ n ∈ Finset.range 262144, if (A (pix n)).toNat = b then 1 else 0

/-- The pixels at which two images both have class `b`. -/
def hitT (A B : S64x4096.Idx → BitVec 32) (b : ℕ) : ℕ :=
  ∑ n ∈ Finset.range 262144, if (A (pix n)).toNat = b ∧ A (pix n) = B (pix n) then 1 else 0

/-- A sum over a product of two ranges, taken in blocks. -/
theorem sum_blocks (a b : ℕ) (f : ℕ → ℕ) : ∑ n ∈ Finset.range (a * b), f n = ∑ i ∈ Finset.range a, ∑ j ∈ Finset.range b, f (b * i + j) := by
  induction a with
  | zero => simp
  | succ a ih =>
    rw [Nat.succ_mul, Finset.sum_range_add, ih, Finset.sum_range_succ]
    simp only [Nat.mul_comm a b]

theorem img_congr {r r' c c' : ℕ} (hr : r % 64 = r' % 64) (hc : c % 4096 = c' % 4096) : img r c = img r' c' := by
  funext k
  match k with
  | ⟨0, _⟩ => exact Fin.ext hr
  | ⟨1, _⟩ => exact Fin.ext hc

/-- The value a lane reads at a step is the image's at its place. -/
theorem rowAt_tile (A : S64x4096.Idx → BitVec 32) (w m t : ℕ) (hm : m < 512) (ht : t < 16) :
    rowAt (tileRows A w) m (ln (lane t)) = A (pix (8192 * w + (16 * m + t))) := by
  have e : ((ln (lane t)) 0).val = t := Nat.mod_eq_of_lt ht
  unfold rowAt
  rw [e]
  refine congrArg A (img_congr ?_ ?_)
  · show (2 * w + m / 256 % 2) % 64 = (8192 * w + (16 * m + t)) / 4096 % 64
    omega
  · show (m % 256 * 16 + t) % 4096 % 4096 = (8192 * w + (16 * m + t)) % 4096 % 4096
    omega

/-- The lanes' counts of a tile, over the tile's places. -/
theorem tile_sum (f : ℕ → ℕ) (w : ℕ) (g : ℕ → ℕ → ℕ) (hg : ∀ t < 16, ∀ m < 512, g t m = f (8192 * w + (16 * m + t))) :
    ∑ t ∈ Finset.range 16, ∑ m ∈ Finset.range 512, g t m = ∑ q ∈ Finset.range 8192, f (8192 * w + q) := by
  rw [Finset.sum_comm, show 8192 = 512 * 16 from rfl, sum_blocks 512 16]
  exact Finset.sum_congr rfl fun m hm => Finset.sum_congr rfl fun t ht => hg t (Finset.mem_range.mp ht) m (Finset.mem_range.mp hm)

theorem tile_hit (A B : S64x4096.Idx → BitVec 32) (w b : ℕ) : ∑ t ∈ Finset.range 16, hitN (tileRows A w) (tileRows B w) (lane t) b 512
    = ∑ q ∈ Finset.range 8192, if (A (pix (8192 * w + q))).toNat = b ∧ A (pix (8192 * w + q)) = B (pix (8192 * w + q)) then 1 else 0 :=
  tile_sum (fun n => if (A (pix n)).toNat = b ∧ A (pix n) = B (pix n) then 1 else 0) w _ fun t ht m hm => by
    rw [rowAt_tile A w m t hm ht, rowAt_tile B w m t hm ht]

theorem tile_cnt (A : S64x4096.Idx → BitVec 32) (w b : ℕ) : ∑ t ∈ Finset.range 16, cntN (tileRows A w) (lane t) b 512
    = ∑ q ∈ Finset.range 8192, if (A (pix (8192 * w + q))).toNat = b then 1 else 0 :=
  tile_sum (fun n => if (A (pix n)).toNat = b then 1 else 0) w _ fun t ht m hm => by
    rw [rowAt_tile A w m t hm ht]

theorem all_hit (A B : S64x4096.Idx → BitVec 32) (b : ℕ) :
    ∑ w ∈ Finset.range 32, ∑ t ∈ Finset.range 16, hitN (tileRows A w) (tileRows B w) (lane t) b 512 = hitT A B b := by
  unfold hitT
  rw [show 262144 = 32 * 8192 from rfl, sum_blocks 32 8192]
  exact Finset.sum_congr rfl fun w _ => tile_hit A B w b

theorem all_cnt (A : S64x4096.Idx → BitVec 32) (b : ℕ) :
    ∑ w ∈ Finset.range 32, ∑ t ∈ Finset.range 16, cntN (tileRows A w) (lane t) b 512 = cntT A b := by
  unfold cntT
  rw [show 262144 = 32 * 8192 from rfl, sum_blocks 32 8192]
  exact Finset.sum_congr rfl fun w _ => tile_cnt A w b

theorem cast_sum (f : ℕ → ℕ) (n : ℕ) : ((∑ i ∈ Finset.range n, f i : ℕ) : EReal) = ∑ i ∈ Finset.range n, (f i : EReal) := by
  induction n with
  | zero => exact Nat.cast_zero
  | succ n ih => rw [Finset.sum_range_succ, Finset.sum_range_succ, cast_add, ih]

/-- One column of the partial results added up. -/
theorem sum_col (h : S32x192.ReducesTo [0] S192) (hu : 0 < S_.numel) (v : S32x192.Idx → Ideal .f32) (c : ℕ) (f : ℕ → ℕ)
    (hv : ∀ k : Fin 32, v (ix2 k (⟨c % 192, Nat.mod_lt _ (by decide)⟩ : Fin 192)) = ((f k.val : ℕ) : EReal)) :
    (Host.reduceAdd v (constant S_ .f32 0x00000000#32) h hu : S192.Idx → Ideal .f32) (cell192 c) = ((∑ w ∈ Finset.range 32, f w : ℕ) : EReal) := by
  rw [Host.reduceAdd_apply, Ideal.hostReduceAdd_def, Ideal.hostReduceAdd_r2_a0]
  have e0 : (constant S_ .f32 0x00000000#32 : S_.Idx → Ideal .f32) (Shape.Idx.first hu) = (0 : EReal) := zero_eq
  rw [e0, zero_add, cast_sum, ← Fin.sum_univ_eq_sum_range (fun w => ((f w : ℕ) : EReal)) 32]
  exact Finset.sum_congr rfl fun k _ => hv k

theorem partOf_at (A B : S64x4096.Idx → BitVec 32) (k : Fin 32) (c : Fin 192) :
    (partOf A B (ix2 k c) : Ideal .f32) = partRow (hist (tileRows A k.val) (tileRows B k.val) 512) (cell192 c.val) := rfl

theorem cell_mod (c : ℕ) : cell192 (c % 192) = cell192 c := by
  funext k
  match k with
  | ⟨0, _⟩ => exact Fin.ext (Nat.mod_mod _ _)

/-- The three parts of the summed results, at a class. -/
theorem sum_parts (h : S32x192.ReducesTo [0] S192) (hu : 0 < S_.numel) (A B : S64x4096.Idx → BitVec 32) (b : ℕ) (hb : b < 64) :
    (Host.reduceAdd (partOf A B) (constant S_ .f32 0x00000000#32) h hu : S192.Idx → Ideal .f32) (cell192 b) = ((hitT A B b : ℕ) : EReal)
    ∧ (Host.reduceAdd (partOf A B) (constant S_ .f32 0x00000000#32) h hu : S192.Idx → Ideal .f32) (cell192 (64 + b)) = ((cntT A b : ℕ) : EReal)
    ∧ (Host.reduceAdd (partOf A B) (constant S_ .f32 0x00000000#32) h hu : S192.Idx → Ideal .f32) (cell192 (128 + b)) = ((cntT B b : ℕ) : EReal) := by
  rw [← all_hit, ← all_cnt, ← all_cnt]
  refine ⟨sum_col h hu _ _ _ fun k => ?_, sum_col h hu _ _ _ fun k => ?_, sum_col h hu _ _ _ fun k => ?_⟩
  · rw [partOf_at, cell_mod]; exact (partRow_eq _ _ b hb).1
  · rw [partOf_at, cell_mod]; exact (partRow_eq _ _ b hb).2.1
  · rw [partOf_at, cell_mod]; exact (partRow_eq _ _ b hb).2.2

theorem slice_at (s : S192.Idx → Ideal .f32) (o : ℕ) (h : S192.Slices ![o] S50) (i : S50.Idx) :
    extractStridedSlice S50 ![o] s h i = s (cell192 (o + (i 0).val)) := by
  have hi : (i 0).val < 50 := (i 0).isLt
  have hs : o + 50 ≤ 192 := h.2 0
  refine congrArg s (funext fun k => ?_)
  match k with
  | ⟨0, _⟩ => exact Fin.ext (show o + (i 0).val = (o + (i 0).val) % 192 from (Nat.mod_eq_of_lt (by omega)).symm)

theorem inter_at (m : (ℓ : Loc nD τ sig) → Buf (Elt Ideal) ℓ) (d : Dev nD) (i : S50.Idx) :
    interOf m d i = ((hitT (aOf m d) (bOf m d) (i 0).val : ℕ) : EReal) := by
  have hi : (i 0).val < 50 := (i 0).isLt
  unfold interOf
  rw [slice_at, Nat.zero_add]
  exact (sum_parts _ _ (aOf m d) (bOf m d) (i 0).val (by omega)).1

theorem union_at (m : (ℓ : Loc nD τ sig) → Buf (Elt Ideal) ℓ) (d : Dev nD) (i : S50.Idx) :
    unionOf m d i = ((cntT (aOf m d) (i 0).val : ℕ) : EReal) + ((cntT (bOf m d) (i 0).val : ℕ) : EReal)
      - ((hitT (aOf m d) (bOf m d) (i 0).val : ℕ) : EReal) := by
  have hi : (i 0).val < 50 := (i 0).isLt
  have e := sum_parts reducesTo_S32x192_S192_d0 h_S_ (aOf m d) (bOf m d) (i 0).val (by omega)
  have e1 := (slice_at (sumOf m d) 64 slices_S192_S50_64 i).trans e.2.1
  have e2 := (slice_at (sumOf m d) 128 slices_S192_S50_128 i).trans e.2.2
  rw [← e1, ← e2, ← inter_at]
  rfl

end Cert.Proof.Val

end
-- ==== Proof.Land.lean ====
module

public import proofs.«01_k».proof.Proof.RefRun
public import proofs.«01_k».proof.Proof.Total
public import Idealize.ShloMosaic.Lib.Routing.Ops
public import Idealize.ShloMosaic.Lib.Pipeline.Value

/-!
  The reference's two scatters: each pixel adds to the bin of its class, so a bin ends with the number of its pixels, or with the
  number of those the two images agree on.
-/

@[expose] public section

noncomputable section

namespace Cert.Proof.Val

open Cert.ReferenceIdeal Cert.ReferenceIdeal.Gen
open Idealize.ShloMosaic
open Cert.Proof.Ref (flatR clipR binR interR countR)

/-- The scatter's record. -/
abbrev sc : ScatterDims S50 S262144x1 S262144 := scatter_S50_S262144x1_S262144_n_0_0_1

/-- The row of the index column that a pixel reads. -/
def col (j : S262144.Idx) : S262144x1.Idx := fun
  | ⟨0, _⟩ => (⟨(j 0).val, (j 0).isLt⟩ : Fin 262144)
  | ⟨1, _⟩ => (0 : Fin 1)

theorem window_eq (j : S262144.Idx) (a : Fin S50.rank) : sc.window j a = 0 := by
  obtain rfl : a = 0 := Subsingleton.elim (α := Fin 1) _ _
  unfold ScatterDims.window
  refine dif_neg fun h : (0 : Fin S50.rank) ∈ sc.sKept => ?_
  have h' := (List.mem_filter.mp h).2
  exact (of_decide_eq_true h') (List.mem_singleton.mpr rfl)

theorem start_eq (j : S262144.Idx) (idx : IVec S262144x1 32) (a : Fin S50.rank) : sc.start j idx a = (idx (col j)).toInt := by
  obtain rfl : a = 0 := Subsingleton.elim (α := Fin 1) _ _
  have hm : (0 : Fin S50.rank) ∈ sc.scatterDimsToOperandDims := List.mem_singleton.mpr rfl
  unfold ScatterDims.start
  rw [dif_pos hm]
  refine congrArg (fun k => (idx k).toInt) (funext fun b => Fin.ext ?_)
  match b with
  | ⟨0, h0⟩ =>
    unfold ScatterDims.siIdx
    rw [dif_neg (show ¬ (⟨0, h0⟩ : Fin S262144x1.rank).val = sc.indexVectorDim from Nat.zero_ne_one)]
    unfold ScatterDims.siCoord
    have e : ∀ X : Fin 1, (j X).val = (j 0).val := fun X => by
      obtain rfl : X = 0 := Subsingleton.elim _ _
      rfl
    exact e _
  | ⟨1, h1⟩ =>
    unfold ScatterDims.siIdx
    rw [dif_pos (show (⟨1, h1⟩ : Fin S262144x1.rank).val = sc.indexVectorDim from rfl)]
    rfl

/-- A pixel lands in the bin its index word names. -/
theorem lands_iff (j : S262144.Idx) (idx : IVec S262144x1 32) (i : S50.Idx) : sc.resultIdx? j idx = some i ↔ (idx (col j)).toInt = ((i 0).val : ℤ) := by
  have hi : (i 0).val < 50 := (i 0).isLt
  unfold ScatterDims.resultIdx?
  simp only [window_eq, start_eq]
  split
  · next h =>
    constructor
    · intro e
      have e0 : ((idx (col j)).toInt + ((0 : ℕ) : ℤ)).toNat = (i 0).val := congrArg Fin.val (congrFun (Option.some.inj e) 0)
      have h0 := (h 0).1
      omega
    · intro e
      refine congrArg some (funext fun a => Fin.ext ?_)
      obtain rfl : a = 0 := Subsingleton.elim (α := Fin 1) _ _
      show ((idx (col j)).toInt + ((0 : ℕ) : ℤ)).toNat = (i 0).val
      omega
  · next h =>
    constructor
    · intro e; cases e
    · intro e
      refine (h fun a => ?_).elim
      obtain rfl : a = 0 := Subsingleton.elim (α := Fin 1) _ _
      show 0 ≤ (idx (col j)).toInt + ((0 : ℕ) : ℤ) ∧ (idx (col j)).toInt + ((0 : ℕ) : ℤ) < ((50 : ℕ) : ℤ)
      omega

/-- A class below 50 as a signed number. -/
theorem toInt_small (x : BitVec 32) (h : x.toNat < 50) : x.toInt = (x.toNat : ℤ) := by
  rw [BitVec.toInt_eq_toNat_cond, if_pos (by omega)]

/-- Clipping at zero and counting a negative class from the end both leave a class below 50. -/
theorem bin_word (x : BitVec 32) (h : x.toNat < 50) :
    Scalar.select (IntOp.cmpi .slt (IntOp.maxsi 0#32 x) 0#32) (IntOp.addi (IntOp.maxsi 0#32 x) 50#32) (IntOp.maxsi 0#32 x) = x := by
  have hs : x.slt 0#32 = false := by
    rw [BitVec.slt_eq_decide, toInt_small x h]
    exact decide_eq_false (by show ¬ (x.toNat : ℤ) < 0; omega)
  have hm : IntOp.maxsi 0#32 x = x := by
    unfold IntOp.maxsi
    rw [hs]
    rfl
  rw [hm]
  show Scalar.select (BitVec.ofBool (x.slt 0#32)) _ _ = x
  rw [hs]
  rfl

theorem bin_at (v : S262144.Idx → BitVec 32) (j : S262144.Idx) (h : (v j).toNat < 50) : binR v (col j) = v j := by
  unfold binR
  refine (broadcastInDim_apply _ _ _ (col j) j fun a => ?_).trans ?_
  · obtain rfl : a = 0 := Subsingleton.elim (α := Fin 1) _ _
    show (j 0).val = if (262144 : ℕ) = 1 then 0 else (j 0).val
    rw [if_neg (by norm_num)]
  · exact bin_word (v j) h

/-- A pixel of a class below 50 lands in the class's bin. -/
theorem lands_class (v : S262144.Idx → BitVec 32) (j : S262144.Idx) (h : (v j).toNat < 50) (i : S50.Idx) :
    sc.resultIdx? j (binR v) = some i ↔ (v j).toNat = (i 0).val := by
  rw [lands_iff, bin_at v j h, toInt_small _ h, Nat.cast_inj]

/-- A place of the row, by number. -/
def place (n : ℕ) : S262144.Idx := fun | ⟨0, _⟩ => (⟨n % 262144, Nat.mod_lt _ (by norm_num)⟩ : Fin 262144)

theorem place_val (j : S262144.Idx) : place (j 0).val = j := by
  funext a
  match a with
  | ⟨0, _⟩ => exact Fin.ext (Nat.mod_eq_of_lt (j 0).isLt)

/-- A sum over the row is a sum over the place numbers. -/
theorem sum_place (f : S262144.Idx → EReal) : ∑ j : S262144.Idx, f j = ∑ n ∈ Finset.range 262144, f (place n) := by
  rw [← Fin.sum_univ_eq_sum_range (fun n => f (place n)) 262144]
  refine Fintype.sum_equiv ⟨fun j : S262144.Idx => (⟨(j 0).val, (j 0).isLt⟩ : Fin 262144), fun n => place n.val, fun j => place_val j, fun n => Fin.ext ?_⟩ _ _ fun j => ?_
  · exact Nat.mod_eq_of_lt n.isLt
  · exact congrArg f (place_val j).symm

theorem bit_val (x y : BitVec 32) : (FloatOps.uitofp .f32 (IntOp.cmpi .eq x y) : Ideal .f32) = (((if x = y then 1 else 0 : ℕ)) : EReal) := by
  have e : (IntOp.cmpi .eq x y).toNat = if x = y then 1 else 0 := by
    show (BitVec.ofBool (x == y)).toNat = _
    by_cases h : x = y
    · subst h; simp
    · rw [if_neg h, beq_eq_false_iff_ne.mpr h]; rfl
  show (((IntOp.cmpi .eq x y).toNat : ℝ) : EReal) = _
  rw [e, EReal.coe_coe_eq_natCast]

/-- The first scatter at a class: the places of the class at which the two rows agree. -/
theorem interR_at (v w : S262144.Idx → BitVec 32) (hv : ∀ j, (v j).toNat < 50) (i : S50.Idx) : (interR v w i : Ideal .f32)
    = ((∑ n ∈ Finset.range 262144, if (v (place n)).toNat = (i 0).val ∧ v (place n) = w (place n) then 1 else 0 : ℕ) : EReal) := by
  have e : (interR v w i : Ideal .f32) = (Scalar.ofBits .f32 0x00000000#32 : Ideal .f32)
      + ∑ j ∈ Finset.univ.filter (fun j => sc.resultIdx? j (binR v) = some i), (FloatOps.uitofp .f32 (IntOp.cmpi .eq (v j) (w j)) : Ideal .f32) := rfl
  rw [e, zero_eq, zero_add, Finset.sum_filter, sum_place, cast_sum]
  refine Finset.sum_congr rfl fun n _ => ?_
  simp only [lands_class v _ (hv _), bit_val]
  by_cases h : (v (place n)).toNat = (i 0).val
  · rw [if_pos h]
    simp only [h, true_and]
  · rw [if_neg h, if_neg fun k => h k.1]
    exact Nat.cast_zero.symm

/-- The second scatter at a class: the places of the class. -/
theorem countR_at (v : S262144.Idx → BitVec 32) (hv : ∀ j, (v j).toNat < 50) (i : S50.Idx) : (countR v i : Ideal .f32)
    = ((∑ n ∈ Finset.range 262144, if (v (place n)).toNat = (i 0).val then 1 else 0 : ℕ) : EReal) := by
  have hN : S262144.numel = 262144 := Routing.numel1 262144
  have hc : Host.scatter sc IntOp.addi (broadcastInDim S50 ![] bcast_S_S50 (constantI S_ 32 0#32)) (binR v)
      (broadcastInDim S262144 ![] bcast_S_S262144 (constantI S_ 32 1#32)) i
      = BitVec.ofNat 32 (∑ n ∈ Finset.range 262144, if (v (place n)).toNat = (i 0).val then 1 else 0) := by
    unfold Host.scatter
    refine (Routing.foldl_count _ i (fun n => decide ((v (place n.val)).toNat = (i 0).val)) (fun r n => ?_) _ _ 0 rfl).trans ?_
    · have hn : place n.val = S262144.rowMajor.symm n := by
        refine (Eq.trans ?_ (place_val _))
        rw [show ((S262144.rowMajor.symm n) 0).val = n.val by
          rw [← Shape.rowMajor_val_one, Equiv.apply_symm_apply]]
      rw [hn]
      have hl := lands_class v (S262144.rowMajor.symm n) (hv _) i
      generalize S262144.rowMajor.symm n = j at hl ⊢
      generalize sc.resultIdx? j (binR v) = o at hl ⊢
      cases o with
      | none =>
        dsimp only
        rw [if_neg fun h => by have := hl.mpr (of_decide_eq_true h); cases this]
      | some k =>
        dsimp only
        by_cases e : (v j).toNat = (i 0).val
        · have hk : k = i := Option.some.inj (hl.mpr e)
          rw [hk, if_pos rfl, if_pos (decide_eq_true e)]
          rfl
        · rw [if_neg fun h : i = k => e (hl.mp (congrArg some h.symm)), if_neg fun h => e (of_decide_eq_true h)]
    · rw [Nat.zero_add, Routing.countP_finRange _ (fun n => (v (place n)).toNat = (i 0).val), hN, Nat.count_eq_card_filter_range, Finset.card_filter]
  have hle : (∑ n ∈ Finset.range 262144, if (v (place n)).toNat = (i 0).val then 1 else 0) ≤ 262144 := by
    refine (Finset.sum_le_card_nsmul _ _ 1 fun n _ => by split <;> omega).trans ?_
    rw [Finset.card_range, smul_eq_mul, mul_one]
  show (Scalar.sitofp .f32 (Host.scatter sc IntOp.addi (broadcastInDim S50 ![] bcast_S_S50 (constantI S_ 32 0#32)) (binR v)
      (broadcastInDim S262144 ![] bcast_S_S262144 (constantI S_ 32 1#32)) i) : Ideal .f32) = _
  rw [hc]
  exact sitofp_nat _ (lt_of_le_of_lt hle (by norm_num))

end Cert.Proof.Val

end
-- ==== Proof.Algebraic.lean ====
module

public import proofs.«01_k».proof.Proof.Frames
public import proofs.«01_k».proof.Proof.Pred
public import proofs.«01_k».proof.Proof.Total
public import proofs.«01_k».proof.Proof.Land

/-!
  Over ideal values the kernel and the reference leave the same two results: for each class the number of pixels on which
  prediction and label agree, and the pixels of either image less those.
-/

@[expose] public section

noncomputable section

namespace Cert.Proof.Val

open Idealize.ShloMosaic Idealize.SL.Sem
open Cert.KernelIdeal (S64x4096 S50x64x4096 S64x50x4096)

/-- The image as a row, at a place. -/
theorem flat_at (y : S64x4096.Idx → BitVec 32) (n : ℕ) (hn : n < 262144) : Ref.flatR y (place n) = y (pix n) := by
  unfold Ref.flatR
  refine shapeCast_apply y _ _ _ ?_
  rw [Shape.rowMajor_val_two, Shape.rowMajor_val_one]
  show n / 4096 % 64 * 4096 + n % 4096 % 4096 = n % 262144
  omega

/-- Every place of the row is a pixel. -/
theorem flat_lt (y : S64x4096.Idx → BitVec 32) (hy : ∀ i, (y i).toNat < 50) (j : Cert.ReferenceIdeal.S262144.Idx) : (Ref.flatR y j).toNat < 50 := by
  rw [← place_val j, flat_at y _ (j 0).isLt]
  exact hy _

theorem inter_ref (A B : S64x4096.Idx → BitVec 32) (hA : ∀ i, (A i).toNat < 50) (i : Cert.ReferenceIdeal.S50.Idx) :
    (Ref.interR (Ref.flatR A) (Ref.flatR B) i : Ideal .f32) = ((hitT A B (i 0).val : ℕ) : EReal) := by
  rw [interR_at _ _ (flat_lt A hA)]
  refine congrArg (fun n : ℕ => (n : EReal)) (Finset.sum_congr rfl fun n hn => ?_)
  rw [flat_at A n (Finset.mem_range.mp hn), flat_at B n (Finset.mem_range.mp hn)]

theorem count_ref (A : S64x4096.Idx → BitVec 32) (hA : ∀ i, (A i).toNat < 50) (i : Cert.ReferenceIdeal.S50.Idx) :
    (Ref.countR (Ref.flatR A) i : Ideal .f32) = ((cntT A (i 0).val : ℕ) : EReal) := by
  rw [countR_at _ (flat_lt A hA)]
  refine congrArg (fun n : ℕ => (n : EReal)) (Finset.sum_congr rfl fun n hn => ?_)
  rw [flat_at A n (Finset.mem_range.mp hn)]

/-- The kernel's logits, transposed, are the reference's. -/
theorem xOf_at (m : (ℓ : Loc Cert.KernelIdeal.nD Cert.KernelIdeal.τ Cert.KernelIdeal.sig) → Buf (Elt Ideal) ℓ) (d : Dev Cert.KernelIdeal.nD)
    (x : S64x50x4096.Idx → Ideal .f32) (hx : m ((d.tc : Thread Cert.KernelIdeal.nD Cert.KernelIdeal.τ).loc Cert.KernelIdeal.main_arg0) = x)
    (k : Fin 50) (j : S64x4096.Idx) : Seg.xOf m d (Seg.at64 k.val j) = x (at50 k j) := by
  subst hx
  unfold Seg.xOf
  refine transpose_apply _ _ _ _ (at50 k j) fun b => ?_
  match b with
  | ⟨0, _⟩ => exact (Nat.mod_eq_of_lt k.isLt).symm
  | ⟨1, _⟩ => rfl
  | ⟨2, _⟩ => rfl

theorem aOf_lt50 (m : (ℓ : Loc Cert.KernelIdeal.nD Cert.KernelIdeal.τ Cert.KernelIdeal.sig) → Buf (Elt Ideal) ℓ) (d : Dev Cert.KernelIdeal.nD) (i : S64x4096.Idx) :
    (Seg.aOf m d i).toNat < 50 := by
  obtain ⟨k, hk, e, -⟩ := scan_spec (fun c => Seg.xOf m d (Seg.at64 c i)) 49
  have h : Seg.aOf m d i = BitVec.ofNat 32 k := congrArg Prod.snd e
  rw [h, BitVec.toNat_ofNat, Nat.mod_eq_of_lt (by omega)]
  omega

/-- The two results of the reference over the kernel's images. -/
theorem inter_eq (m : (ℓ : Loc Cert.KernelIdeal.nD Cert.KernelIdeal.τ Cert.KernelIdeal.sig) → Buf (Elt Ideal) ℓ) (d : Dev Cert.KernelIdeal.nD) :
    (Ref.interR (Ref.flatR (Seg.aOf m d)) (Ref.flatR (Seg.bOf m d)) : Cert.ReferenceIdeal.S50.Idx → Ideal .f32) = Seg.interOf m d :=
  funext fun i => (inter_ref _ _ (aOf_lt50 m d) i).trans (inter_at m d i).symm

theorem union_eq (m : (ℓ : Loc Cert.KernelIdeal.nD Cert.KernelIdeal.τ Cert.KernelIdeal.sig) → Buf (Elt Ideal) ℓ) (d : Dev Cert.KernelIdeal.nD)
    (hB : ∀ i, (Seg.bOf m d i).toNat < 50) :
    (subf (addf (Ref.countR (Ref.flatR (Seg.aOf m d))) (Ref.countR (Ref.flatR (Seg.bOf m d))))
      (Ref.interR (Ref.flatR (Seg.aOf m d)) (Ref.flatR (Seg.bOf m d))) : Cert.ReferenceIdeal.S50.Idx → Ideal .f32) = Seg.unionOf m d := by
  funext i
  refine Eq.trans ?_ (union_at m d i).symm
  rw [← count_ref _ (aOf_lt50 m d) i, ← count_ref _ hB i, ← inter_ref _ (Seg.bOf m d) (aOf_lt50 m d) i]
  rfl

end Cert.Proof.Val

namespace Cert.Proof

open Idealize.ShloMosaic Idealize.ShloMosaic.StableHlo Idealize.SL.Sem

/-- `Cert.algebraic_KernelIdeal_ReferenceIdeal`: both runs leave the counts. -/
theorem algebraic : Cert.algebraic_KernelIdeal_ReferenceIdeal := by
  intro m g m' g' hpre hargs
  have hB : ∀ d i, (Seg.bOf m d i).toNat < 50 := fun d i => label_lt (F := Ideal) _ _ (hpre d) i
  refine ⟨fun c => Seg.interOf m c, fun c => Seg.unionOf m c, ?_, ?_⟩
  · exact (θ_run (Cert.KernelIdeal.defs (F := Ideal)) _ _).mono (fun r h c => ⟨(h.1 c).2.2.1, (h.1 c).2.2.2, (h.1 c).1, (h.1 c).2.1⟩)
      (Seg.run_main (F := Ideal) m g fun d i => lt_trans (hB d i) (by norm_num))
  · refine (θ_run (Cert.ReferenceIdeal.defs (F := Ideal)) _ _).mono (fun r h c => ?_) (Ref.run_main (F := Ideal) m' g')
    have hp : Ref.predR (m' ((c.tc : Thread Cert.ReferenceIdeal.nD Cert.ReferenceIdeal.τ).loc Cert.ReferenceIdeal.main_arg0)) = Seg.aOf m c :=
      Val.pred_eq _ (Seg.xOf m c) (Val.xOf_at m c _ (hargs c).1.symm)
    have hl : m' ((c.tc : Thread Cert.ReferenceIdeal.nD Cert.ReferenceIdeal.τ).loc Cert.ReferenceIdeal.main_arg1) = Seg.bOf m c := (hargs c).2
    refine ⟨(h c Cert.ReferenceIdeal.main_v13).trans ((Ref.v13_eq _).trans ?_), (h c Cert.ReferenceIdeal.main_v37).trans ((Ref.v37_eq _).trans ?_),
      (h c Cert.ReferenceIdeal.main_arg0).trans (Ref.arg0_eq _), (h c Cert.ReferenceIdeal.main_arg1).trans (Ref.arg1_eq _)⟩
    · refine Eq.trans ?_ (Val.inter_eq m c)
      rw [← hp, ← hl]
    · refine Eq.trans ?_ (Val.union_eq m c (hB c))
      rw [← hp, ← hl]

end Cert.Proof

end
-- ==== Proof.lean ====
module

public import proofs.«01_k».proof.Proof.Frames
public import proofs.«01_k».proof.Proof.RefRun
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_labels_in_range.Gen.facts,
  frame_kernel, frame_kernelIdeal, Ref.frame_reference, trivial, algebraic⟩

end Cert.Proof

end
